-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x27648 : Shape := ⟨3, ![64, 1, 27648]⟩
abbrev S27648x5120 : Shape := ⟨2, ![27648, 5120]⟩
abbrev S5120 : Shape := ⟨1, ![5120]⟩
abbrev S64x27648 : Shape := ⟨2, ![64, 27648]⟩
abbrev S1x5120 : Shape := ⟨2, ![1, 5120]⟩
abbrev S64x5120 : Shape := ⟨2, ![64, 5120]⟩
abbrev S64x1 : Shape := ⟨2, ![64, 1]⟩
abbrev S1024x5120 : Shape := ⟨2, ![1024, 5120]⟩
abbrev S64 : Shape := ⟨1, ![64]⟩
abbrev S64x1024 : Shape := ⟨2, ![64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x1x27648, .bf16⟩
  | .hbm, ⟨1, _⟩ => ⟨S27648x5120, .fp8e4m3⟩
  | .hbm, ⟨2, _⟩ => ⟨S5120, .f32⟩
  | .hbm, ⟨3, _⟩ => ⟨S64x27648, .bf16⟩
  | .hbm, ⟨4, _⟩ => ⟨S1x5120, .f32⟩
  | .hbm, ⟨5, _⟩ => ⟨S64x5120, .bf16⟩
  | .hbm, ⟨6, _⟩ => ⟨S64x27648, .fp8e4m3⟩
  | .hbm, ⟨7, _⟩ => ⟨S64x1, .f32⟩
  | .local _ .vmem, ⟨0, _⟩ => ⟨S64x27648, .bf16⟩
  | .local _ .vmem, ⟨1, _⟩ => ⟨S1024x5120, .fp8e4m3⟩
  | .local _ .vmem, ⟨2, _⟩ => ⟨S1024x5120, .fp8e4m3⟩
  | .local _ .vmem, ⟨3, _⟩ => ⟨S1x5120, .f32⟩
  | .local _ .vmem, ⟨4, _⟩ => ⟨S64x5120, .bf16⟩
  | .local _ .vmem, ⟨5, _⟩ => ⟨S64x27648, .fp8e4m3⟩
  | .local _ .vmem, ⟨6, _⟩ => ⟨S64x1, .f32⟩
  | .local _ .vmem, ⟨7, _⟩ => ⟨S64x5120, .f32⟩
  | _, _ => ⟨S64x1x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![27], ![false]⟩

def k0_mult1 (i : grid0.Coords) : BitVec 32 :=
  let arg0 : BitVec 32 := BitVec.ofNat 32 (i 0).val
  let c1024_i32 : BitVec 32 := 1024#32
  let v4 : BitVec 32 := Scalar.muli arg0 c1024_i32
  v4
def k0_off1 (i : grid0.Coords) : Fin 2 → Nat :=
  let c0_2 : Index := 0#32
  let arg0 : BitVec 32 := BitVec.ofNat 32 (i 0).val
  let c1024_i32 : BitVec 32 := 1024#32
  let v4 : BitVec 32 := Scalar.muli arg0 c1024_i32
  let v5 : BitVec 32 := v4
  let v6 : Index := Scalar.indexCast v5
  ![0, v6.toNat]
def k0_cond2 (i : grid0.Coords) : BitVec 1 :=
  let arg0 : BitVec 32 := BitVec.ofNat 32 (i 0).val
  let c26_i32 : BitVec 32 := 26#32
  let v15 : BitVec 1 := Scalar.cmpi .eq arg0 c26_i32
  let v16 : BitVec 32 := Scalar.extui v15
  let c0_i32_7 : BitVec 32 := 0#32
  let v17 : BitVec 1 := Scalar.cmpi .ne v16 c0_i32_7
  v17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x27648 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x27648 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S64x1x27648 : Shape := ⟨3, ![64, 1, 27648]⟩
abbrev S27648x5120 : Shape := ⟨2, ![27648, 5120]⟩
abbrev S5120 : Shape := ⟨1, ![5120]⟩
abbrev S64x27648 : Shape := ⟨2, ![64, 27648]⟩
abbrev S1x5120 : Shape := ⟨2, ![1, 5120]⟩
abbrev S64x5120 : Shape := ⟨2, ![64, 5120]⟩
abbrev S64x1 : Shape := ⟨2, ![64, 1]⟩
abbrev S64 : Shape := ⟨1, ![64]⟩
abbrev S1x256 : Shape := ⟨2, ![1, 256]⟩
abbrev S64x256 : Shape := ⟨2, ![64, 256]⟩

abbrev nBuf : Space → Nat
  | .hbm => 8
  | .vmem => 6
  | .smem => 0
  | _ => 0

abbrev bufTy : (tb : Table) → Fin (tcTables nBuf tb) → BufTy
  | .hbm, ⟨0, _⟩ => ⟨S64x1x27648, .bf16⟩
  | .hbm, ⟨1, _⟩ => ⟨S27648x5120, .fp8e4m3⟩
  | .hbm, ⟨2, _⟩ => ⟨S5120, .f32⟩
  | .hbm, ⟨3, _⟩ => ⟨S64x27648, .bf16⟩
  | .hbm, ⟨4, _⟩ => ⟨S1x5120, .f32⟩
  | .hbm, ⟨5, _⟩ => ⟨S64x5120, .bf16⟩
  | .hbm, ⟨6, _⟩ => ⟨S64x27648, .fp8e4m3⟩
  | .hbm, ⟨7, _⟩ => ⟨S64x1, .f32⟩
  | .local _ .vmem, ⟨0, _⟩ => ⟨S64x27648, .bf16⟩
  | .local _ .vmem, ⟨1, _⟩ => ⟨S27648x5120, .fp8e4m3⟩
  | .local _ .vmem, ⟨2, _⟩ => ⟨S1x5120, .f32⟩
  | .local _ .vmem, ⟨3, _⟩ => ⟨S64x5120, .bf16⟩
  | .local _ .vmem, ⟨4, _⟩ => ⟨S64x27648, .fp8e4m3⟩
  | .local _ .vmem, ⟨5, _⟩ => ⟨S64x1, .f32⟩
  | _, _ => ⟨S64x1x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x27648 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27648x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x27648 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Values.lean ====
/- What one run of the kernel's body stores, as functions of the blocks it reads. -/
module

public import proofs.«01_k».proof.Proof.Gen.Kernel.Skeleton
public import proofs.«01_k».proof.Proof.Gen.Kernel.Frame
public import Idealize.ShloMosaic.Lib.VecWindow
public import Idealize.ShloMosaic.Lib.Pipeline.TableIdle

@[expose] public section

set_option maxRecDepth 16384

noncomputable section

namespace Cert.Kernel.Own

open Idealize.ShloMosaic Idealize.ShloMosaic.TcCoe
open Cert.Kernel.Gen
open Idealize.SL Idealize.SL.Sem

variable {F : FTy → Type} [FloatOps F]

/-- The exponent field of each row's scaled maximum, found by bisection. -/
def fieldOf (x : Vec F S64x27648 .bf16) : IVec S64x1 32 := k0_pay11 (k0_pay7 x) (k0_pay8 x) (k0_pay9 x) k0_pay10

/-- Whether that field is the one of zero or the one of infinity. -/
def edgeOf (x : Vec F S64x27648 .bf16) : IVec S64x1 1 := k0_pay12 (k0_pay7 x) (k0_pay8 x) (k0_pay9 x) k0_pay10

/-- The scale of each row: what the first point stores into the third result. -/
def scalesOf (x : Vec F S64x27648 .bf16) : FVec F S64x1 .f32 := k0_pay15 (k0_pay6 x) (fieldOf x) (edgeOf x) k0_pay13 126#32

/-- The codes of the rows: what the first point stores into the second result. -/
def codesOf (x : Vec F S64x27648 .bf16) : FVec F S64x27648 .fp8e4m3 :=
  k0_pay1 (k0_pay5 x) (k0_pay17 (k0_pay6 x) (fieldOf x) (edgeOf x) k0_pay13 126#32)
    (k0_pay18 (k0_pay6 x) (fieldOf x) (edgeOf x) k0_pay13 126#32)
    (k0_pay19 (k0_pay6 x) (fieldOf x) (edgeOf x) k0_pay13 126#32) 2139095040#32

/-- The columns of the codes that a point multiplies. -/
def colsOf (i : grid0.Coords) (q : Vec F S64x27648 .fp8e4m3) : Vec F S64x1024 .fp8e4m3 :=
  VecWindow.window q (k0_off1 i) S64x1024.size (k0_off1_inb i)

/-- The condition under which a point quantises: it is the first. -/
abbrev isFirst (i : grid0.Coords) : Prop := k0_cond1 i = 1#1

/-- The condition under which a point stores the product: it is the last. -/
abbrev isLast (i : grid0.Coords) : Prop := k0_cond2 i = 1#1

/-- The first condition, by the point's number. -/
theorem isFirst_iff : ∀ t : Fin cfg0.N, isFirst (grid0.coords t) ↔ t.val = 0 :=
  (fun t => by
    have ht : t.val < 27 := Nat.lt_of_lt_of_eq t.isLt N_0
    have e0 : (grid0.coords t 0).val = t.val / 1 % 27 := Pipeline.Grid.coords_val t 0 (by decide) rfl
    have e1 : t.val = 0 ↔ t.val % 27 = 0 := by omega
    rw [e1]
    simp only [isFirst, k0_cond1, e0]
    word_cmp
   : ∀ t : Fin grid0.N, isFirst (grid0.coords t) ↔ t.val = 0)

/-- The second condition, by the point's number. -/
theorem isLast_iff : ∀ t : Fin cfg0.N, isLast (grid0.coords t) ↔ t.val = 26 :=
  (fun t => by
    have ht : t.val < 27 := Nat.lt_of_lt_of_eq t.isLt N_0
    have e0 : (grid0.coords t 0).val = t.val / 1 % 27 := Pipeline.Grid.coords_val t 0 (by decide) rfl
    have e1 : t.val = 26 ↔ t.val % 27 = 26 := by omega
    rw [e1]
    simp only [isLast, k0_cond2, e0]
    word_cmp
   : ∀ t : Fin grid0.N, isLast (grid0.coords t) ↔ t.val = 26)

end Cert.Kernel.Own

end
-- ==== Proof.Kernel.Runs.lean ====
/- The body of the kernel, run: at the first point, at a point between, at the last point. -/
module

public import proofs.«01_k».proof.Proof.Kernel.Values

@[expose] public section

set_option maxRecDepth 16384

noncomputable section

namespace Cert.Kernel.Own

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords)
  (arg1 : Memref sig .tc .vmem S64x27648 .bf16) (harg1 : arg1.IsWhole)
  (arg2 : Memref sig .tc .vmem S1024x5120 .fp8e4m3) (harg2 : arg2.IsWhole)
  (arg3 : Memref sig .tc .vmem S1x5120 .f32) (harg3 : arg3.IsWhole)
  (arg4 : Memref sig .tc .vmem S64x5120 .bf16) (harg4 : arg4.IsWhole)
  (arg5 : Memref sig .tc .vmem S64x27648 .fp8e4m3) (harg5 : arg5.IsWhole)
  (arg6 : Memref sig .tc .vmem S64x1 .f32) (harg6 : arg6.IsWhole)
  (arg7 : Memref sig .tc .vmem S64x5120 .f32) (harg7 : arg7.IsWhole)

set_option maxHeartbeats 1000000 in
/-- A point between the first and the last adds its product to the accumulator. -/
theorem run_mid (hc0 : ¬isFirst i) (hc1 : ¬isLast i)
    (x1 : Vec F S1024x5120 .fp8e4m3) (q : Vec F S64x27648 .fp8e4m3) (a : Vec F S64x5120 .f32) (E : Set ℕ) (K : PUnit → sProp 𝕄) :
    iprop(owns (c : Thread nD τ) arg2 fullShare x1 ∗ owns (c : Thread nD τ) arg5 fullShare q ∗ owns (c : Thread nD τ) arg7 fullShare a
      ∗ (iprop(owns (c : Thread nD τ) arg2 fullShare x1 ∗ owns (c : Thread nD τ) arg5 fullShare q
          ∗ owns (c : Thread nD τ) arg7 fullShare (k0_pay3 a (colsOf i q) x1)) -∗ K ⟨⟩))
    ⊢ wp frame (wpE (defs₀ (F := F)) Variants.none c none) E
        (cc0__body i arg1 harg1 arg2 harg2 arg3 harg3 arg4 harg4 arg5 harg5 arg6 harg6 arg7 harg7) K := by
  simp only [cc0__body_eq_skeleton]; unfold cc0__body_skel
  simp only [owns_eq_rep]
  iintro ⟨H1, H4, HS, Hk⟩
  sl_exec (disch := first | sl_exact hc0 | sl_exact hc1)
  sl_step
  iapply Hk
  isplitl [H1]; · iexact H1
  isplitl [H4]; · iexact H4
  rw [← owns_eq_rep]
  unfold owns; iexists _; isplitr
  swap; · iexact HS
  ipureintro
  rw [View.read_writes_full]
  exact congr (congr (congrArg k0_pay3 (View.readAt_rep_full ..)) (View.readAt_rep_unit _ _ _ rfl _)) (View.readAt_rep_full ..)

set_option maxHeartbeats 1000000 in
/-- The last point adds its product to the accumulator and stores the scaled sum. -/
theorem run_last (hc0 : ¬isFirst i) (hc1 : isLast i)
    (x1 : Vec F S1024x5120 .fp8e4m3) (x2 : Vec F S1x5120 .f32) (q : Vec F S64x27648 .fp8e4m3) (s : Vec F S64x1 .f32)
    (a : Vec F S64x5120 .f32) (E : Set ℕ) (K : PUnit → sProp 𝕄) :
    iprop(owns (c : Thread nD τ) arg2 fullShare x1 ∗ owns (c : Thread nD τ) arg3 fullShare x2 ∗ (∃ d, owns (c : Thread nD τ) arg4 fullShare d)
      ∗ owns (c : Thread nD τ) arg5 fullShare q ∗ owns (c : Thread nD τ) arg6 fullShare s ∗ owns (c : Thread nD τ) arg7 fullShare a
      ∗ (iprop(owns (c : Thread nD τ) arg2 fullShare x1 ∗ owns (c : Thread nD τ) arg3 fullShare x2
          ∗ owns (c : Thread nD τ) arg4 fullShare (k0_pay4 (k0_pay3 a (colsOf i q) x1) s x2)
          ∗ owns (c : Thread nD τ) arg5 fullShare q ∗ owns (c : Thread nD τ) arg6 fullShare s
          ∗ owns (c : Thread nD τ) arg7 fullShare (k0_pay3 a (colsOf i q) x1)) -∗ K ⟨⟩))
    ⊢ wp frame (wpE (defs₀ (F := F)) Variants.none c none) E
        (cc0__body i arg1 harg1 arg2 harg2 arg3 harg3 arg4 harg4 arg5 harg5 arg6 harg6 arg7 harg7) K := by
  simp only [cc0__body_eq_skeleton]; unfold cc0__body_skel
  simp only [owns_eq_rep]
  iintro ⟨H1, H2, ⟨%d3, H3⟩, H4, H5, HS, Hk⟩
  sl_exec (disch := first | sl_exact hc0 | sl_exact hc1)
  sl_step
  iapply Hk
  isplitl [H1]; · iexact H1
  isplitl [H2]; · iexact H2
  have e : k0_pay3 (View.readAt (Elt F) arg7.view (Rect.unit ![0, 0] ![64, 5120] inb_S64x5120_S64x5120_0_0).toLoadRect (arg7.view.rep a))
      (View.readAt (Elt F) arg5.view (Rect.unit (k0_off1 i) ![64, 1024] (k0_off1_inb i)).toLoadRect (arg5.view.rep q))
      (View.readAt (Elt F) arg2.view (Rect.unit ![0, 0] ![1024, 5120] inb_S1024x5120_S1024x5120_0_0).toLoadRect (arg2.view.rep x1))
      = k0_pay3 a (colsOf i q) x1 :=
    congr (congr (congrArg k0_pay3 (View.readAt_rep_full ..)) (View.readAt_rep_unit _ _ _ rfl _)) (View.readAt_rep_full ..)
  isplitl [H3]
  · rw [← owns_eq_rep]
    unfold owns; iexists _; isplitr
    swap; · iexact H3
    ipureintro
    rw [View.read_writes_full]
    unfold run_last.sl.v18 run_last.sl.HS_1
    exact congr (congr (congrArg k0_pay4 ((View.readCov_full ..).trans e)) (View.readAt_rep_full ..)) (View.readAt_rep_full ..)
  isplitl [H4]; · iexact H4
  isplitl [H5]; · iexact H5
  rw [← owns_eq_rep]
  unfold owns; iexists _; isplitr
  swap; · iexact HS
  ipureintro
  unfold run_last.sl.HS_1
  rw [View.read_writes_full]
  exact e

set_option maxHeartbeats 1000000 in
/-- The first point stores the codes and the scales and starts the accumulator with its product. -/
theorem run_first (hc0 : isFirst i) (hc1 : ¬isLast i)
    (x0 : Vec F S64x27648 .bf16) (x1 : Vec F S1024x5120 .fp8e4m3) (E : Set ℕ) (K : PUnit → sProp 𝕄) :
    iprop(owns (c : Thread nD τ) arg1 fullShare x0 ∗ owns (c : Thread nD τ) arg2 fullShare x1
      ∗ (∃ d, owns (c : Thread nD τ) arg5 fullShare d) ∗ (∃ d, owns (c : Thread nD τ) arg6 fullShare d) ∗ (∃ d, owns (c : Thread nD τ) arg7 fullShare d)
      ∗ (iprop(owns (c : Thread nD τ) arg1 fullShare x0 ∗ owns (c : Thread nD τ) arg2 fullShare x1
          ∗ owns (c : Thread nD τ) arg5 fullShare (codesOf x0) ∗ owns (c : Thread nD τ) arg6 fullShare (scalesOf x0)
          ∗ owns (c : Thread nD τ) arg7 fullShare (k0_pay3 k0_pay2 (colsOf i (codesOf x0)) x1)) -∗ K ⟨⟩))
    ⊢ wp frame (wpE (defs₀ (F := F)) Variants.none c none) E
        (cc0__body i arg1 harg1 arg2 harg2 arg3 harg3 arg4 harg4 arg5 harg5 arg6 harg6 arg7 harg7) K := by
  simp only [cc0__body_eq_skeleton]; unfold cc0__body_skel
  simp only [k0_part1_eq_skeleton, k0_part2_eq_skeleton, k0_part3_eq_skeleton]
  simp only [owns_eq_rep]
  iintro ⟨H0, H1, ⟨%d4, H4⟩, ⟨%d5, H5⟩, ⟨%ds, HS⟩, Hk⟩
  sl_exec (disch := first | sl_exact hc0 | sl_exact hc1)
  sl_step
  iapply Hk
  isplitl [H0]; · iexact H0
  isplitl [H1]; · iexact H1
  have ex : View.readAt (Elt F) arg1.view (Rect.unit ![0, 0] S64x27648.size inb_S64x27648_S64x27648_0_0).toLoadRect (arg1.view.rep x0) = x0 :=
    View.readAt_rep_full ..
  isplitl [H4]
  · rw [← owns_eq_rep]
    unfold owns; iexists _; isplitr
    swap; · iexact H4
    ipureintro
    sl_unfold_run_names
    rw [ex, View.read_writes_full]
    rfl
  isplitl [H5]
  · rw [← owns_eq_rep]
    unfold owns; iexists _; isplitr
    swap; · iexact H5
    ipureintro
    rw [View.read_writes_full]
    sl_unfold_run_names
    rw [ex]
    rfl
  rw [← owns_eq_rep]
  unfold owns; iexists _; isplitr
  swap; · iexact HS
  ipureintro
  rw [View.read_writes_full]
  sl_unfold_run_names
  rw [ex]
  exact congr (congr (congrArg k0_pay3 (View.readCov_full ..)) ((View.readAt_unit _ _ _ rfl (k0_off1_inb i)).trans
    (by rw [View.read_writes_full]; rfl))) (View.readAt_rep_full ..)

end

end Cert.Kernel.Own

end
-- ==== Proof.Kernel.Frame.lean ====
/- The run of the whole kernel: what its buffers hold between points, and the three results at the end. -/
module

public import proofs.«01_k».proof.Proof.Kernel.Runs
public import Idealize.ShloMosaic.Lib.Claim

@[expose] public section

set_option maxRecDepth 16384

noncomputable section

namespace Cert.Kernel.Own

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The grid has 27 points. -/
theorem points : cfg0.N = 27 := N_0

/-- The first point. -/
abbrev t0 : Fin cfg0.N := ⟨0, by rw [points]; decide⟩

/-- The rows of `x`, as the first point finds them. -/
def rows (c : Dev nD) : Vec F S64x27648 .bf16 := iblk m c 0 t0

/-- The block of weights of a point. -/
def weights (c : Dev nD) (t : Fin cfg0.N) : Vec F S1024x5120 .fp8e4m3 := iblk m c 1 t

/-- The weights' scales, as a point finds them. -/
def weightScales (c : Dev nD) (t : Fin cfg0.N) : Vec F S1x5120 .f32 := iblk m c 2 t

/-- The accumulator before point `n`: zero, and one product added per point. -/
def accAt (c : Dev nD) : ℕ → Vec F S64x5120 .f32
  | 0 => k0_pay2
  | n + 1 => if h : n < cfg0.N then k0_pay3 (accAt c n) (colsOf (grid0.coords ⟨n, h⟩) (codesOf (rows m c))) (weights m c ⟨n, h⟩) else accAt c n

/-- One point's step of the accumulator. -/
theorem accAt_succ (c : Dev nD) (t : Fin cfg0.N) :
    accAt m c (t.val + 1) = k0_pay3 (accAt m c t.val) (colsOf (grid0.coords t) (codesOf (rows m c))) (weights m c t) := by
  rw [accAt, dif_pos t.isLt]

/-- The first result at the last point: the sum over all points, scaled on both sides. -/
def productOf (c : Dev nD) (t : Fin cfg0.N) : FVec F S64x5120 .bf16 :=
  k0_pay4 (accAt m c cfg0.N) (scalesOf (rows m c)) (weightScales m c t)

/-- The scratch accumulator, whole. -/
abbrev scratch : Memref sig .tc .vmem S64x5120 .f32 := Memref.whole cc0_scratch0

/-- The invariant before point `n`: at the start the scratch holds anything, afterwards the sum so far. -/
def inv (c : Dev nD) : ℕ → sProp 𝕄
  | 0 => Pipeline.ΦA spec0 c
  | n + 1 => iprop(owns (c : Thread nD τ) scratch fullShare (accAt m c (n + 1)) ∗ (∃ r, prngReg c r))

/-- After the first point the invariant is the scratch at the sum so far. -/
theorem inv_pos (c : Dev nD) (n : ℕ) (h : n ≠ 0) :
    inv m c n = iprop(owns (c : Thread nD τ) scratch fullShare (accAt m c n) ∗ (∃ r, prngReg c r)) := by
  cases n with
  | zero => exact absurd rfl h
  | succ n => rfl

/-- The invariant at the start, with the scratch as a memref. -/
theorem start_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- The proof data of the pipeline: what each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => productOf m c t
    | ⟨4, _⟩ => codesOf (rows m c)
    | ⟨5, _⟩ => scalesOf (rows m c)
  Φ t := inv m c t.val
  q _ := fullShare
  owed _ := 0

/-- The arrays are as the region finds them. -/
theorem A_eq (c : Dev nD) (w : Fin cfg0.W) : (dats m 0 c).A w = V m c (Pipeline.arrRef spec0 w) := by
  dsimp only [dats]

/-- The body leaves each input's block in place. -/
theorem after_0 (c : Dev nD) (t : Fin cfg0.N) : (dats m 0 c).after 0 t = iblk m c 0 t := by dsimp only [dats]
/-- The same of the weights. -/
theorem after_1 (c : Dev nD) (t : Fin cfg0.N) : (dats m 0 c).after 1 t = iblk m c 1 t := by dsimp only [dats]
/-- The same of the weights' scales. -/
theorem after_2 (c : Dev nD) (t : Fin cfg0.N) : (dats m 0 c).after 2 t = iblk m c 2 t := by dsimp only [dats]
/-- The body leaves the scaled product in the first result's buffer (read at the last point only). -/
theorem after_3 (c : Dev nD) (t : Fin cfg0.N) : (dats m 0 c).after 3 t = productOf m c t := by dsimp only [dats]
/-- The body leaves the codes in the second result's buffer. -/
theorem after_4 (c : Dev nD) (t : Fin cfg0.N) : (dats m 0 c).after 4 t = codesOf (rows m c) := by dsimp only [dats]
/-- The body leaves the scales in the third result's buffer. -/
theorem after_5 (c : Dev nD) (t : Fin cfg0.N) : (dats m 0 c).after 5 t = scalesOf (rows m c) := by dsimp only [dats]

/-- The rows' buffer holds its block before every point. -/
theorem before_0 (c : Dev nD) (t : Fin cfg0.N) (d) : (dats m 0 c).before 0 t d = iblk m c 0 t :=
  before0_0_of m (dats m 0 c) (A_eq m c 0) (after_0 m c) t d
/-- The weights' buffer holds its block before every point. -/
theorem before_1 (c : Dev nD) (t : Fin cfg0.N) (d) : (dats m 0 c).before 1 t d = iblk m c 1 t :=
  before0_1_of m (dats m 0 c) (A_eq m c 1) (after_1 m c) t d
/-- The buffer of the weights' scales holds its block before every point. -/
theorem before_2 (c : Dev nD) (t : Fin cfg0.N) (d) : (dats m 0 c).before 2 t d = iblk m c 2 t :=
  before0_2_of m (dats m 0 c) (A_eq m c 2) (after_2 m c) t d

/-! ## The results' buffers at a point that stores nothing into them -/

/-- The body stores the first result at the last point only. -/
theorem idle_3 (t : Fin cfg0.N) : cfg0.idle 3 (grid0.coords t) = !decide (t.val = 26) := by
  show (!(k0_cond2 (grid0.coords t) == 1#1)) = _
  rw [beq_eq_decide]; simp only [isLast_iff t]

/-- The body stores the codes at the first point only. -/
theorem idle_4 (t : Fin cfg0.N) : cfg0.idle 4 (grid0.coords t) = !decide (t.val = 0) := by
  show (!(k0_cond1 (grid0.coords t) == 1#1)) = _
  rw [beq_eq_decide]; simp only [isFirst_iff t]

/-- The body stores the scales at the first point only. -/
theorem idle_5 (t : Fin cfg0.N) : cfg0.idle 5 (grid0.coords t) = !decide (t.val = 0) := by
  show (!(k0_cond1 (grid0.coords t) == 1#1)) = _
  rw [beq_eq_decide]; simp only [isFirst_iff t]

/-- The first result is written back after the last point only. -/
theorem flush_3 (t : Fin cfg0.N) : (cfg0.win 3).flush t = decide (t.val = 26) := by
  have hN : t.val < 27 := lt_of_lt_of_eq t.isLt points
  have h := flush0_3 t
  rw [Bool.eq_iff_iff, h, decide_eq_true_iff]; omega

/-- The codes are written back after the last point only. -/
theorem flush_4 (t : Fin cfg0.N) : (cfg0.win 4).flush t = decide (t.val = 26) := by
  have hN : t.val < 27 := lt_of_lt_of_eq t.isLt points
  have h := flush0_4 t
  rw [Bool.eq_iff_iff, h, decide_eq_true_iff]; omega

/-- The scales are written back after the last point only. -/
theorem flush_5 (t : Fin cfg0.N) : (cfg0.win 5).flush t = decide (t.val = 26) := by
  have hN : t.val < 27 := lt_of_lt_of_eq t.isLt points
  have h := flush0_5 t
  rw [Bool.eq_iff_iff, h, decide_eq_true_iff]; omega

/-- The codes' buffer is fresh at the first point only (and after the last). -/
theorem fresh_4 (n : ℕ) (hn : n ≤ cfg0.N) : cfg0.fresh 4 n = decide (n = 0 ∨ n = 27) :=
  cfg0.fresh_tab 4 (fun n => decide (n = 0 ∨ n = 27)) rfl (fun t => by
    have hN : t.val < 27 := lt_of_lt_of_eq t.isLt points
    rw [flush_4, show cfg0.idle 4 (cfg0.grid.coords t) = _ from idle_4 t, Bool.eq_iff_iff]
    simp only [Bool.or_eq_true, Bool.and_eq_true, decide_eq_true_iff, Bool.not_eq_true', decide_eq_false_iff_not]
    omega) n hn

/-- The scales' buffer is fresh at the first point only (and after the last). -/
theorem fresh_5 (n : ℕ) (hn : n ≤ cfg0.N) : cfg0.fresh 5 n = decide (n = 0 ∨ n = 27) :=
  cfg0.fresh_tab 5 (fun n => decide (n = 0 ∨ n = 27)) rfl (fun t => by
    have hN : t.val < 27 := lt_of_lt_of_eq t.isLt points
    rw [flush_5, show cfg0.idle 5 (cfg0.grid.coords t) = _ from idle_5 t, Bool.eq_iff_iff]
    simp only [Bool.or_eq_true, Bool.and_eq_true, decide_eq_true_iff, Bool.not_eq_true', decide_eq_false_iff_not]
    omega) n hn

/-- After the first point the codes' buffer holds the codes. -/
theorem before_4 (c : Dev nD) (t : Fin cfg0.N) (h : t.val ≠ 0) (d) : (dats m 0 c).before 4 t d = codesOf (rows m c) := by
  have hN : t.val < 27 := lt_of_lt_of_eq t.isLt points
  rw [(dats m 0 c).before_out_traj 4 rfl (fun _ _ => rfl) (fun t _ _ _ => by rw [after_4, after_4]) t.val t rfl d,
    fresh_4 t.val t.isLt.le, if_neg (by rw [decide_eq_true_iff]; omega), after_4]

/-- After the first point the scales' buffer holds the scales. -/
theorem before_5 (c : Dev nD) (t : Fin cfg0.N) (h : t.val ≠ 0) (d) : (dats m 0 c).before 5 t d = scalesOf (rows m c) := by
  have hN : t.val < 27 := lt_of_lt_of_eq t.isLt points
  rw [(dats m 0 c).before_out_traj 5 rfl (fun _ _ => rfl) (fun t _ _ _ => by rw [after_5, after_5]) t.val t rfl d,
    fresh_5 t.val t.isLt.le, if_neg (by rw [decide_eq_true_iff]; omega), after_5]

/-! ## The body's obligation -/

/-- The staging buffers of a point, one per window. -/
abbrev ms_0 (t : Fin cfg0.N) : Memref sig .tc .vmem S64x27648 .bf16 := win0_0.stage (cfg0.slots t 0)
abbrev ms_1 (t : Fin cfg0.N) : Memref sig .tc .vmem S1024x5120 .fp8e4m3 := win0_1.stage (cfg0.slots t 1)
abbrev ms_2 (t : Fin cfg0.N) : Memref sig .tc .vmem S1x5120 .f32 := win0_2.stage (cfg0.slots t 2)
abbrev ms_3 (t : Fin cfg0.N) : Memref sig .tc .vmem S64x5120 .bf16 := win0_3.stage (cfg0.slots t 3)
abbrev ms_4 (t : Fin cfg0.N) : Memref sig .tc .vmem S64x27648 .fp8e4m3 := win0_4.stage (cfg0.slots t 4)
abbrev ms_5 (t : Fin cfg0.N) : Memref sig .tc .vmem S64x1 .f32 := win0_5.stage (cfg0.slots t 5)

/-- An input's buffer is handed back with its block. -/
theorem leaves_0 (c : Dev nD) (t : Fin cfg0.N) : (dats m 0 c).leavesExact 0 t = owns (c : Thread nD τ) (ms_0 t) fullShare (iblk m c 0 t) := by
  unfold Dat.leavesExact; rw [show cfg0.idle 0 (cfg0.grid.coords t) = false from rfl, after_0]
/-- The same of the weights. -/
theorem leaves_1 (c : Dev nD) (t : Fin cfg0.N) : (dats m 0 c).leavesExact 1 t = owns (c : Thread nD τ) (ms_1 t) fullShare (iblk m c 1 t) := by
  unfold Dat.leavesExact; rw [show cfg0.idle 1 (cfg0.grid.coords t) = false from rfl, after_1]
/-- The same of the weights' scales. -/
theorem leaves_2 (c : Dev nD) (t : Fin cfg0.N) : (dats m 0 c).leavesExact 2 t = owns (c : Thread nD τ) (ms_2 t) fullShare (iblk m c 2 t) := by
  unfold Dat.leavesExact; rw [show cfg0.idle 2 (cfg0.grid.coords t) = false from rfl, after_2]

/-- Before the last point the first result's buffer is handed back as found. -/
theorem leaves_3_mid (c : Dev nD) (t : Fin cfg0.N) (h : t.val ≠ 26) :
    (dats m 0 c).leavesExact 3 t = iprop(∃ d, owns (c : Thread nD τ) (ms_3 t) fullShare ((dats m 0 c).before 3 t d)) :=
  (dats m 0 c).leavesExact_idle 3 t ((idle_3 t).trans (by rw [decide_eq_false h]; rfl)) ((flush_3 t).trans (decide_eq_false h))

/-- At the last point it is handed back with the scaled product. -/
theorem leaves_3_last (c : Dev nD) (t : Fin cfg0.N) (h : t.val = 26) :
    (dats m 0 c).leavesExact 3 t = owns (c : Thread nD τ) (ms_3 t) fullShare (productOf m c t) := by
  unfold Dat.leavesExact
  rw [show cfg0.idle 3 (cfg0.grid.coords t) = false from (idle_3 t).trans (by rw [decide_eq_true h]; rfl), after_3]

/-- The codes' buffer is handed back with the codes, at every point. -/
theorem leaves_4 (c : Dev nD) (t : Fin cfg0.N) :
    owns (c : Thread nD τ) (ms_4 t) fullShare (codesOf (rows m c)) ⊢ ((dats m 0 c).leavesExact 4 t : sProp 𝕄) := by
  by_cases h : t.val = 0
  · unfold Dat.leavesExact
    rw [show cfg0.idle 4 (cfg0.grid.coords t) = false from (idle_4 t).trans (by rw [decide_eq_true h]; rfl), after_4]
  · have hi : cfg0.idle 4 (cfg0.grid.coords t) = true := (idle_4 t).trans (by rw [decide_eq_false h]; rfl)
    by_cases hl : t.val = 26
    · unfold Dat.leavesExact
      rw [hi, show (cfg0.win 4).flush t = true from (flush_4 t).trans (decide_eq_true hl), after_4]
    · rw [(dats m 0 c).leavesExact_idle 4 t hi ((flush_4 t).trans (decide_eq_false hl))]
      iintro H
      iexists (codesOf (rows m c)); rw [before_4 m c t h]; iexact H

/-- The scales' buffer is handed back with the scales, at every point. -/
theorem leaves_5 (c : Dev nD) (t : Fin cfg0.N) :
    owns (c : Thread nD τ) (ms_5 t) fullShare (scalesOf (rows m c)) ⊢ ((dats m 0 c).leavesExact 5 t : sProp 𝕄) := by
  by_cases h : t.val = 0
  · unfold Dat.leavesExact
    rw [show cfg0.idle 5 (cfg0.grid.coords t) = false from (idle_5 t).trans (by rw [decide_eq_true h]; rfl), after_5]
  · have hi : cfg0.idle 5 (cfg0.grid.coords t) = true := (idle_5 t).trans (by rw [decide_eq_false h]; rfl)
    by_cases hl : t.val = 26
    · unfold Dat.leavesExact
      rw [hi, show (cfg0.win 5).flush t = true from (flush_5 t).trans (decide_eq_true hl), after_5]
    · rw [(dats m 0 c).leavesExact_idle 5 t hi ((flush_5 t).trans (decide_eq_false hl))]
      iintro H
      iexists (scalesOf (rows m c)); rw [before_5 m c t h]; iexact H

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The invariant before a point, by the point's number. -/
theorem inv_castSucc (c : Dev nD) (t : Fin cfg0.N) : (dats m 0 c).Φ t.castSucc = inv m c t.val := by
  dsimp only [dats]; rfl

set_option maxHeartbeats 1600000 in
/-- The body at any point takes the invariant and the buffers to the next point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, inv_castSucc,
    show (dats m 0 c).Φ t.succ = inv m c (t.val + 1) from rfl, inv_pos m c (t.val + 1) (Nat.succ_ne_zero _),
    leaves_0, leaves_1, leaves_2, accAt_succ]
  have hN : t.val < 27 := lt_of_lt_of_eq t.isLt points
  by_cases h0 : t.val = 0
  · have e : t = t0 := Fin.ext h0
    rw [leaves_3_mid m c t (by omega)]
    have hacc : accAt m c t.val = k0_pay2 := by rw [h0]; rfl
    have hrows : rows m c = iblk m c 0 t := by rw [e]; rfl
    rw [hacc]
    rw [show inv m c t.val = Pipeline.ΦA spec0 c from by rw [h0]; rfl, start_eq]
    iintro ⟨⟨HS, Hg⟩, Ho, ⟨%d0, H0⟩, ⟨%d1, H1⟩, ⟨%d2, H2⟩, H3, ⟨%d4, H4⟩, ⟨%d5, H5⟩⟩
    iapply (run_first c (grid0.coords t) _ _ _ _ _ _ _ _ _ _ _ _ _ _ ((isFirst_iff t).mpr h0) (fun h => by have := (isLast_iff t).mp h; omega)
      (iblk m c 0 t) (iblk m c 1 t) Set.univ _)
    isplitl [H0]; · iexact H0
    isplitl [H1]; · iexact H1
    isplitl [H4]; · iexists _; iexact H4
    isplitl [H5]; · iexists _; iexact H5
    isplitl [HS]; · iexact HS
    iintro ⟨H0, H1, H4, H5, HS⟩
    isplitl [HS Hg]
    · isplitl [HS]
      · rw [hrows]; iexact HS
      iexact Hg
    isplitl [Ho]; · iexact Ho
    isplitl [H0]; · iexact H0
    isplitl [H1]; · iexact H1
    isplitl [H2]; · iexact H2
    isplitl [H3]; · iexact H3
    isplitl [H4]
    · iapply (leaves_4 m c t); rw [hrows]; iexact H4
    iapply (leaves_5 m c t); rw [hrows]; iexact H5
  · simp only [before_4 m c t h0, before_5 m c t h0]
    rw [inv_pos m c t.val h0]
    by_cases h1 : t.val = 26
    · rw [leaves_3_last m c t h1]
      have hp : productOf m c t = k0_pay4 (k0_pay3 (accAt m c t.val) (colsOf (grid0.coords t) (codesOf (rows m c))) (weights m c t))
          (scalesOf (rows m c)) (weightScales m c t) := by
        unfold productOf
        rw [← accAt_succ]
        exact congrArg (fun n => k0_pay4 (accAt m c n) (scalesOf (rows m c)) (weightScales m c t)) (points.trans (by omega))
      rw [hp]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ (fun h => h0 ((isFirst_iff t).mp h)) ((isLast_iff t).mpr h1)
        (iblk m c 1 t) (iblk m c 2 t) (codesOf (rows m c)) (scalesOf (rows m c)) (accAt m c t.val) Set.univ _)
      isplitl [H1]; · iexact H1
      isplitl [H2]; · iexact H2
      isplitl [H3]; · iexists _; iexact H3
      isplitl [H4]; · iexact H4
      isplitl [H5]; · iexact H5
      isplitl [HS]; · iexact HS
      iintro ⟨H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]
      · iapply (leaves_4 m c t); iexact H4
      iapply (leaves_5 m c t); iexact H5
    · rw [leaves_3_mid m c t h1]
      iintro ⟨⟨HS, Hg⟩, Ho, ⟨%d0, H0⟩, ⟨%d1, H1⟩, ⟨%d2, H2⟩, H3, ⟨%d4, H4⟩, ⟨%d5, H5⟩⟩
      iapply (run_mid c (grid0.coords t) _ _ _ _ _ _ _ _ _ _ _ _ _ _ (fun h => h0 ((isFirst_iff t).mp h)) (fun h => h1 ((isLast_iff t).mp h))
        (iblk m c 1 t) (codesOf (rows m c)) (accAt m c t.val) Set.univ _)
      isplitl [H1]; · iexact H1
      isplitl [H4]; · iexact H4
      isplitl [HS]; · iexact HS
      iintro ⟨H1, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]
      · iapply (leaves_4 m c t); iexact H4
      iapply (leaves_5 m c t); iexact H5

/-- The body that the pipeline calls at a point is the printed one on the point's buffers. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's invariant is the one before the first point. -/
theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  rw [show (dats m 0 c).Φ (Fin.last cfg0.N) = inv m c (Fin.last cfg0.N).val from rfl,
    inv_pos m c _ (by rw [Fin.val_last]; have : cfg0.N = 27 := points; omega), start_eq]
  iintro ⟨HS, Hg⟩
  isplitl [HS]
  · iexists _; iexact HS
  iexact Hg

/-! ## The run -/

set_option backward.isDefEq.respectTransparency.types false in
/-- Every execution ends, the windowed arrays as the proof data say, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every execution ends, the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_quiescent m ρ))

end Cert.Kernel.Own

end
-- ==== Proof.KernelIdeal.Values.lean ====
/- What one run of the kernel's body stores, as functions of the blocks it reads. -/
module

public import proofs.«01_k».proof.Proof.Gen.KernelIdeal.Skeleton
public import proofs.«01_k».proof.Proof.Gen.KernelIdeal.Frame
public import Idealize.ShloMosaic.Lib.VecWindow
public import Idealize.ShloMosaic.Lib.Pipeline.TableIdle

@[expose] public section

set_option maxRecDepth 16384

noncomputable section

namespace Cert.KernelIdeal.Own

open Idealize.ShloMosaic Idealize.ShloMosaic.TcCoe
open Cert.KernelIdeal.Gen
open Idealize.SL Idealize.SL.Sem

variable {F : FTy → Type} [FloatOps F]

/-- The exponent field of each row's scaled maximum, found by bisection. -/
def fieldOf (x : Vec F S64x27648 .bf16) : IVec S64x1 32 := k0_pay11 (k0_pay7 x) (k0_pay8 x) (k0_pay9 x) k0_pay10

/-- Whether that field is the one of zero or the one of infinity. -/
def edgeOf (x : Vec F S64x27648 .bf16) : IVec S64x1 1 := k0_pay12 (k0_pay7 x) (k0_pay8 x) (k0_pay9 x) k0_pay10

/-- The scale of each row: what the first point stores into the third result. -/
def scalesOf (x : Vec F S64x27648 .bf16) : FVec F S64x1 .f32 := k0_pay15 (k0_pay6 x) (fieldOf x) (edgeOf x) k0_pay13 126#32

/-- The codes of the rows: what the first point stores into the second result. -/
def codesOf (x : Vec F S64x27648 .bf16) : FVec F S64x27648 .fp8e4m3 :=
  k0_pay1 (k0_pay5 x) (k0_pay17 (k0_pay6 x) (fieldOf x) (edgeOf x) k0_pay13 126#32)
    (k0_pay18 (k0_pay6 x) (fieldOf x) (edgeOf x) k0_pay13 126#32)
    (k0_pay19 (k0_pay6 x) (fieldOf x) (edgeOf x) k0_pay13 126#32) 2139095040#32

/-- The columns of the codes that a point multiplies. -/
def colsOf (i : grid0.Coords) (q : Vec F S64x27648 .fp8e4m3) : Vec F S64x1024 .fp8e4m3 :=
  VecWindow.window q (k0_off1 i) S64x1024.size (k0_off1_inb i)

/-- The condition under which a point quantises: it is the first. -/
abbrev isFirst (i : grid0.Coords) : Prop := k0_cond1 i = 1#1

/-- The condition under which a point stores the product: it is the last. -/
abbrev isLast (i : grid0.Coords) : Prop := k0_cond2 i = 1#1

/-- The first condition, by the point's number. -/
theorem isFirst_iff : ∀ t : Fin cfg0.N, isFirst (grid0.coords t) ↔ t.val = 0 :=
  (fun t => by
    have ht : t.val < 27 := Nat.lt_of_lt_of_eq t.isLt N_0
    have e0 : (grid0.coords t 0).val = t.val / 1 % 27 := Pipeline.Grid.coords_val t 0 (by decide) rfl
    have e1 : t.val = 0 ↔ t.val % 27 = 0 := by omega
    rw [e1]
    simp only [isFirst, k0_cond1, e0]
    word_cmp
   : ∀ t : Fin grid0.N, isFirst (grid0.coords t) ↔ t.val = 0)

/-- The second condition, by the point's number. -/
theorem isLast_iff : ∀ t : Fin cfg0.N, isLast (grid0.coords t) ↔ t.val = 26 :=
  (fun t => by
    have ht : t.val < 27 := Nat.lt_of_lt_of_eq t.isLt N_0
    have e0 : (grid0.coords t 0).val = t.val / 1 % 27 := Pipeline.Grid.coords_val t 0 (by decide) rfl
    have e1 : t.val = 26 ↔ t.val % 27 = 26 := by omega
    rw [e1]
    simp only [isLast, k0_cond2, e0]
    word_cmp
   : ∀ t : Fin grid0.N, isLast (grid0.coords t) ↔ t.val = 26)

end Cert.KernelIdeal.Own

end
-- ==== Proof.KernelIdeal.Runs.lean ====
/- The body of the kernel, run: at the first point, at a point between, at the last point. -/
module

public import proofs.«01_k».proof.Proof.KernelIdeal.Values

@[expose] public section

set_option maxRecDepth 16384

noncomputable section

namespace Cert.KernelIdeal.Own

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords)
  (arg1 : Memref sig .tc .vmem S64x27648 .bf16) (harg1 : arg1.IsWhole)
  (arg2 : Memref sig .tc .vmem S1024x5120 .fp8e4m3) (harg2 : arg2.IsWhole)
  (arg3 : Memref sig .tc .vmem S1x5120 .f32) (harg3 : arg3.IsWhole)
  (arg4 : Memref sig .tc .vmem S64x5120 .bf16) (harg4 : arg4.IsWhole)
  (arg5 : Memref sig .tc .vmem S64x27648 .fp8e4m3) (harg5 : arg5.IsWhole)
  (arg6 : Memref sig .tc .vmem S64x1 .f32) (harg6 : arg6.IsWhole)
  (arg7 : Memref sig .tc .vmem S64x5120 .f32) (harg7 : arg7.IsWhole)

set_option maxHeartbeats 1000000 in
/-- A point between the first and the last adds its product to the accumulator. -/
theorem run_mid (hc0 : ¬isFirst i) (hc1 : ¬isLast i)
    (x1 : Vec F S1024x5120 .fp8e4m3) (q : Vec F S64x27648 .fp8e4m3) (a : Vec F S64x5120 .f32) (E : Set ℕ) (K : PUnit → sProp 𝕄) :
    iprop(owns (c : Thread nD τ) arg2 fullShare x1 ∗ owns (c : Thread nD τ) arg5 fullShare q ∗ owns (c : Thread nD τ) arg7 fullShare a
      ∗ (iprop(owns (c : Thread nD τ) arg2 fullShare x1 ∗ owns (c : Thread nD τ) arg5 fullShare q
          ∗ owns (c : Thread nD τ) arg7 fullShare (k0_pay3 a (colsOf i q) x1)) -∗ K ⟨⟩))
    ⊢ wp frame (wpE (defs₀ (F := F)) Variants.none c none) E
        (cc0__body i arg1 harg1 arg2 harg2 arg3 harg3 arg4 harg4 arg5 harg5 arg6 harg6 arg7 harg7) K := by
  simp only [cc0__body_eq_skeleton]; unfold cc0__body_skel
  simp only [owns_eq_rep]
  iintro ⟨H1, H4, HS, Hk⟩
  sl_exec (disch := first | sl_exact hc0 | sl_exact hc1)
  sl_step
  iapply Hk
  isplitl [H1]; · iexact H1
  isplitl [H4]; · iexact H4
  rw [← owns_eq_rep]
  unfold owns; iexists _; isplitr
  swap; · iexact HS
  ipureintro
  rw [View.read_writes_full]
  exact congr (congr (congrArg k0_pay3 (View.readAt_rep_full ..)) (View.readAt_rep_unit _ _ _ rfl _)) (View.readAt_rep_full ..)

set_option maxHeartbeats 1000000 in
/-- The last point adds its product to the accumulator and stores the scaled sum. -/
theorem run_last (hc0 : ¬isFirst i) (hc1 : isLast i)
    (x1 : Vec F S1024x5120 .fp8e4m3) (x2 : Vec F S1x5120 .f32) (q : Vec F S64x27648 .fp8e4m3) (s : Vec F S64x1 .f32)
    (a : Vec F S64x5120 .f32) (E : Set ℕ) (K : PUnit → sProp 𝕄) :
    iprop(owns (c : Thread nD τ) arg2 fullShare x1 ∗ owns (c : Thread nD τ) arg3 fullShare x2 ∗ (∃ d, owns (c : Thread nD τ) arg4 fullShare d)
      ∗ owns (c : Thread nD τ) arg5 fullShare q ∗ owns (c : Thread nD τ) arg6 fullShare s ∗ owns (c : Thread nD τ) arg7 fullShare a
      ∗ (iprop(owns (c : Thread nD τ) arg2 fullShare x1 ∗ owns (c : Thread nD τ) arg3 fullShare x2
          ∗ owns (c : Thread nD τ) arg4 fullShare (k0_pay4 (k0_pay3 a (colsOf i q) x1) s x2)
          ∗ owns (c : Thread nD τ) arg5 fullShare q ∗ owns (c : Thread nD τ) arg6 fullShare s
          ∗ owns (c : Thread nD τ) arg7 fullShare (k0_pay3 a (colsOf i q) x1)) -∗ K ⟨⟩))
    ⊢ wp frame (wpE (defs₀ (F := F)) Variants.none c none) E
        (cc0__body i arg1 harg1 arg2 harg2 arg3 harg3 arg4 harg4 arg5 harg5 arg6 harg6 arg7 harg7) K := by
  simp only [cc0__body_eq_skeleton]; unfold cc0__body_skel
  simp only [owns_eq_rep]
  iintro ⟨H1, H2, ⟨%d3, H3⟩, H4, H5, HS, Hk⟩
  sl_exec (disch := first | sl_exact hc0 | sl_exact hc1)
  sl_step
  iapply Hk
  isplitl [H1]; · iexact H1
  isplitl [H2]; · iexact H2
  have e : k0_pay3 (View.readAt (Elt F) arg7.view (Rect.unit ![0, 0] ![64, 5120] inb_S64x5120_S64x5120_0_0).toLoadRect (arg7.view.rep a))
      (View.readAt (Elt F) arg5.view (Rect.unit (k0_off1 i) ![64, 1024] (k0_off1_inb i)).toLoadRect (arg5.view.rep q))
      (View.readAt (Elt F) arg2.view (Rect.unit ![0, 0] ![1024, 5120] inb_S1024x5120_S1024x5120_0_0).toLoadRect (arg2.view.rep x1))
      = k0_pay3 a (colsOf i q) x1 :=
    congr (congr (congrArg k0_pay3 (View.readAt_rep_full ..)) (View.readAt_rep_unit _ _ _ rfl _)) (View.readAt_rep_full ..)
  isplitl [H3]
  · rw [← owns_eq_rep]
    unfold owns; iexists _; isplitr
    swap; · iexact H3
    ipureintro
    rw [View.read_writes_full]
    unfold run_last.sl.v18 run_last.sl.HS_1
    exact congr (congr (congrArg k0_pay4 ((View.readCov_full ..).trans e)) (View.readAt_rep_full ..)) (View.readAt_rep_full ..)
  isplitl [H4]; · iexact H4
  isplitl [H5]; · iexact H5
  rw [← owns_eq_rep]
  unfold owns; iexists _; isplitr
  swap; · iexact HS
  ipureintro
  unfold run_last.sl.HS_1
  rw [View.read_writes_full]
  exact e

set_option maxHeartbeats 1000000 in
/-- The first point stores the codes and the scales and starts the accumulator with its product. -/
theorem run_first (hc0 : isFirst i) (hc1 : ¬isLast i)
    (x0 : Vec F S64x27648 .bf16) (x1 : Vec F S1024x5120 .fp8e4m3) (E : Set ℕ) (K : PUnit → sProp 𝕄) :
    iprop(owns (c : Thread nD τ) arg1 fullShare x0 ∗ owns (c : Thread nD τ) arg2 fullShare x1
      ∗ (∃ d, owns (c : Thread nD τ) arg5 fullShare d) ∗ (∃ d, owns (c : Thread nD τ) arg6 fullShare d) ∗ (∃ d, owns (c : Thread nD τ) arg7 fullShare d)
      ∗ (iprop(owns (c : Thread nD τ) arg1 fullShare x0 ∗ owns (c : Thread nD τ) arg2 fullShare x1
          ∗ owns (c : Thread nD τ) arg5 fullShare (codesOf x0) ∗ owns (c : Thread nD τ) arg6 fullShare (scalesOf x0)
          ∗ owns (c : Thread nD τ) arg7 fullShare (k0_pay3 k0_pay2 (colsOf i (codesOf x0)) x1)) -∗ K ⟨⟩))
    ⊢ wp frame (wpE (defs₀ (F := F)) Variants.none c none) E
        (cc0__body i arg1 harg1 arg2 harg2 arg3 harg3 arg4 harg4 arg5 harg5 arg6 harg6 arg7 harg7) K := by
  simp only [cc0__body_eq_skeleton]; unfold cc0__body_skel
  simp only [k0_part1_eq_skeleton, k0_part2_eq_skeleton, k0_part3_eq_skeleton]
  simp only [owns_eq_rep]
  iintro ⟨H0, H1, ⟨%d4, H4⟩, ⟨%d5, H5⟩, ⟨%ds, HS⟩, Hk⟩
  sl_exec (disch := first | sl_exact hc0 | sl_exact hc1)
  sl_step
  iapply Hk
  isplitl [H0]; · iexact H0
  isplitl [H1]; · iexact H1
  have ex : View.readAt (Elt F) arg1.view (Rect.unit ![0, 0] S64x27648.size inb_S64x27648_S64x27648_0_0).toLoadRect (arg1.view.rep x0) = x0 :=
    View.readAt_rep_full ..
  isplitl [H4]
  · rw [← owns_eq_rep]
    unfold owns; iexists _; isplitr
    swap; · iexact H4
    ipureintro
    sl_unfold_run_names
    rw [ex, View.read_writes_full]
    rfl
  isplitl [H5]
  · rw [← owns_eq_rep]
    unfold owns; iexists _; isplitr
    swap; · iexact H5
    ipureintro
    rw [View.read_writes_full]
    sl_unfold_run_names
    rw [ex]
    rfl
  rw [← owns_eq_rep]
  unfold owns; iexists _; isplitr
  swap; · iexact HS
  ipureintro
  rw [View.read_writes_full]
  sl_unfold_run_names
  rw [ex]
  exact congr (congr (congrArg k0_pay3 (View.readCov_full ..)) ((View.readAt_unit _ _ _ rfl (k0_off1_inb i)).trans
    (by rw [View.read_writes_full]; rfl))) (View.readAt_rep_full ..)

end

end Cert.KernelIdeal.Own

end
-- ==== Proof.KernelIdeal.Frame.lean ====
/- The run of the whole kernel: what its buffers hold between points, and the three results at the end. -/
module

public import proofs.«01_k».proof.Proof.KernelIdeal.Runs
public import Idealize.ShloMosaic.Lib.Claim

@[expose] public section

set_option maxRecDepth 16384

noncomputable section

namespace Cert.KernelIdeal.Own

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The grid has 27 points. -/
theorem points : cfg0.N = 27 := N_0

/-- The first point. -/
abbrev t0 : Fin cfg0.N := ⟨0, by rw [points]; decide⟩

/-- The rows of `x`, as the first point finds them. -/
def rows (c : Dev nD) : Vec F S64x27648 .bf16 := iblk m c 0 t0

/-- The block of weights of a point. -/
def weights (c : Dev nD) (t : Fin cfg0.N) : Vec F S1024x5120 .fp8e4m3 := iblk m c 1 t

/-- The weights' scales, as a point finds them. -/
def weightScales (c : Dev nD) (t : Fin cfg0.N) : Vec F S1x5120 .f32 := iblk m c 2 t

/-- The accumulator before point `n`: zero, and one product added per point. -/
def accAt (c : Dev nD) : ℕ → Vec F S64x5120 .f32
  | 0 => k0_pay2
  | n + 1 => if h : n < cfg0.N then k0_pay3 (accAt c n) (colsOf (grid0.coords ⟨n, h⟩) (codesOf (rows m c))) (weights m c ⟨n, h⟩) else accAt c n

/-- One point's step of the accumulator. -/
theorem accAt_succ (c : Dev nD) (t : Fin cfg0.N) :
    accAt m c (t.val + 1) = k0_pay3 (accAt m c t.val) (colsOf (grid0.coords t) (codesOf (rows m c))) (weights m c t) := by
  rw [accAt, dif_pos t.isLt]

/-- The first result at the last point: the sum over all points, scaled on both sides. -/
def productOf (c : Dev nD) (t : Fin cfg0.N) : FVec F S64x5120 .bf16 :=
  k0_pay4 (accAt m c cfg0.N) (scalesOf (rows m c)) (weightScales m c t)

/-- The scratch accumulator, whole. -/
abbrev scratch : Memref sig .tc .vmem S64x5120 .f32 := Memref.whole cc0_scratch0

/-- The invariant before point `n`: at the start the scratch holds anything, afterwards the sum so far. -/
def inv (c : Dev nD) : ℕ → sProp 𝕄
  | 0 => Pipeline.ΦA spec0 c
  | n + 1 => iprop(owns (c : Thread nD τ) scratch fullShare (accAt m c (n + 1)) ∗ (∃ r, prngReg c r))

/-- After the first point the invariant is the scratch at the sum so far. -/
theorem inv_pos (c : Dev nD) (n : ℕ) (h : n ≠ 0) :
    inv m c n = iprop(owns (c : Thread nD τ) scratch fullShare (accAt m c n) ∗ (∃ r, prngReg c r)) := by
  cases n with
  | zero => exact absurd rfl h
  | succ n => rfl

/-- The invariant at the start, with the scratch as a memref. -/
theorem start_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- The proof data of the pipeline: what each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => productOf m c t
    | ⟨4, _⟩ => codesOf (rows m c)
    | ⟨5, _⟩ => scalesOf (rows m c)
  Φ t := inv m c t.val
  q _ := fullShare
  owed _ := 0

/-- The arrays are as the region finds them. -/
theorem A_eq (c : Dev nD) (w : Fin cfg0.W) : (dats m 0 c).A w = V m c (Pipeline.arrRef spec0 w) := by
  dsimp only [dats]

/-- The body leaves each input's block in place. -/
theorem after_0 (c : Dev nD) (t : Fin cfg0.N) : (dats m 0 c).after 0 t = iblk m c 0 t := by dsimp only [dats]
/-- The same of the weights. -/
theorem after_1 (c : Dev nD) (t : Fin cfg0.N) : (dats m 0 c).after 1 t = iblk m c 1 t := by dsimp only [dats]
/-- The same of the weights' scales. -/
theorem after_2 (c : Dev nD) (t : Fin cfg0.N) : (dats m 0 c).after 2 t = iblk m c 2 t := by dsimp only [dats]
/-- The body leaves the scaled product in the first result's buffer (read at the last point only). -/
theorem after_3 (c : Dev nD) (t : Fin cfg0.N) : (dats m 0 c).after 3 t = productOf m c t := by dsimp only [dats]
/-- The body leaves the codes in the second result's buffer. -/
theorem after_4 (c : Dev nD) (t : Fin cfg0.N) : (dats m 0 c).after 4 t = codesOf (rows m c) := by dsimp only [dats]
/-- The body leaves the scales in the third result's buffer. -/
theorem after_5 (c : Dev nD) (t : Fin cfg0.N) : (dats m 0 c).after 5 t = scalesOf (rows m c) := by dsimp only [dats]

/-- The rows' buffer holds its block before every point. -/
theorem before_0 (c : Dev nD) (t : Fin cfg0.N) (d) : (dats m 0 c).before 0 t d = iblk m c 0 t :=
  before0_0_of m (dats m 0 c) (A_eq m c 0) (after_0 m c) t d
/-- The weights' buffer holds its block before every point. -/
theorem before_1 (c : Dev nD) (t : Fin cfg0.N) (d) : (dats m 0 c).before 1 t d = iblk m c 1 t :=
  before0_1_of m (dats m 0 c) (A_eq m c 1) (after_1 m c) t d
/-- The buffer of the weights' scales holds its block before every point. -/
theorem before_2 (c : Dev nD) (t : Fin cfg0.N) (d) : (dats m 0 c).before 2 t d = iblk m c 2 t :=
  before0_2_of m (dats m 0 c) (A_eq m c 2) (after_2 m c) t d

/-! ## The results' buffers at a point that stores nothing into them -/

/-- The body stores the first result at the last point only. -/
theorem idle_3 (t : Fin cfg0.N) : cfg0.idle 3 (grid0.coords t) = !decide (t.val = 26) := by
  show (!(k0_cond2 (grid0.coords t) == 1#1)) = _
  rw [beq_eq_decide]; simp only [isLast_iff t]

/-- The body stores the codes at the first point only. -/
theorem idle_4 (t : Fin cfg0.N) : cfg0.idle 4 (grid0.coords t) = !decide (t.val = 0) := by
  show (!(k0_cond1 (grid0.coords t) == 1#1)) = _
  rw [beq_eq_decide]; simp only [isFirst_iff t]

/-- The body stores the scales at the first point only. -/
theorem idle_5 (t : Fin cfg0.N) : cfg0.idle 5 (grid0.coords t) = !decide (t.val = 0) := by
  show (!(k0_cond1 (grid0.coords t) == 1#1)) = _
  rw [beq_eq_decide]; simp only [isFirst_iff t]

/-- The first result is written back after the last point only. -/
theorem flush_3 (t : Fin cfg0.N) : (cfg0.win 3).flush t = decide (t.val = 26) := by
  have hN : t.val < 27 := lt_of_lt_of_eq t.isLt points
  have h := flush0_3 t
  rw [Bool.eq_iff_iff, h, decide_eq_true_iff]; omega

/-- The codes are written back after the last point only. -/
theorem flush_4 (t : Fin cfg0.N) : (cfg0.win 4).flush t = decide (t.val = 26) := by
  have hN : t.val < 27 := lt_of_lt_of_eq t.isLt points
  have h := flush0_4 t
  rw [Bool.eq_iff_iff, h, decide_eq_true_iff]; omega

/-- The scales are written back after the last point only. -/
theorem flush_5 (t : Fin cfg0.N) : (cfg0.win 5).flush t = decide (t.val = 26) := by
  have hN : t.val < 27 := lt_of_lt_of_eq t.isLt points
  have h := flush0_5 t
  rw [Bool.eq_iff_iff, h, decide_eq_true_iff]; omega

/-- The codes' buffer is fresh at the first point only (and after the last). -/
theorem fresh_4 (n : ℕ) (hn : n ≤ cfg0.N) : cfg0.fresh 4 n = decide (n = 0 ∨ n = 27) :=
  cfg0.fresh_tab 4 (fun n => decide (n = 0 ∨ n = 27)) rfl (fun t => by
    have hN : t.val < 27 := lt_of_lt_of_eq t.isLt points
    rw [flush_4, show cfg0.idle 4 (cfg0.grid.coords t) = _ from idle_4 t, Bool.eq_iff_iff]
    simp only [Bool.or_eq_true, Bool.and_eq_true, decide_eq_true_iff, Bool.not_eq_true', decide_eq_false_iff_not]
    omega) n hn

/-- The scales' buffer is fresh at the first point only (and after the last). -/
theorem fresh_5 (n : ℕ) (hn : n ≤ cfg0.N) : cfg0.fresh 5 n = decide (n = 0 ∨ n = 27) :=
  cfg0.fresh_tab 5 (fun n => decide (n = 0 ∨ n = 27)) rfl (fun t => by
    have hN : t.val < 27 := lt_of_lt_of_eq t.isLt points
    rw [flush_5, show cfg0.idle 5 (cfg0.grid.coords t) = _ from idle_5 t, Bool.eq_iff_iff]
    simp only [Bool.or_eq_true, Bool.and_eq_true, decide_eq_true_iff, Bool.not_eq_true', decide_eq_false_iff_not]
    omega) n hn

/-- After the first point the codes' buffer holds the codes. -/
theorem before_4 (c : Dev nD) (t : Fin cfg0.N) (h : t.val ≠ 0) (d) : (dats m 0 c).before 4 t d = codesOf (rows m c) := by
  have hN : t.val < 27 := lt_of_lt_of_eq t.isLt points
  rw [(dats m 0 c).before_out_traj 4 rfl (fun _ _ => rfl) (fun t _ _ _ => by rw [after_4, after_4]) t.val t rfl d,
    fresh_4 t.val t.isLt.le, if_neg (by rw [decide_eq_true_iff]; omega), after_4]

/-- After the first point the scales' buffer holds the scales. -/
theorem before_5 (c : Dev nD) (t : Fin cfg0.N) (h : t.val ≠ 0) (d) : (dats m 0 c).before 5 t d = scalesOf (rows m c) := by
  have hN : t.val < 27 := lt_of_lt_of_eq t.isLt points
  rw [(dats m 0 c).before_out_traj 5 rfl (fun _ _ => rfl) (fun t _ _ _ => by rw [after_5, after_5]) t.val t rfl d,
    fresh_5 t.val t.isLt.le, if_neg (by rw [decide_eq_true_iff]; omega), after_5]

/-! ## The body's obligation -/

/-- The staging buffers of a point, one per window. -/
abbrev ms_0 (t : Fin cfg0.N) : Memref sig .tc .vmem S64x27648 .bf16 := win0_0.stage (cfg0.slots t 0)
abbrev ms_1 (t : Fin cfg0.N) : Memref sig .tc .vmem S1024x5120 .fp8e4m3 := win0_1.stage (cfg0.slots t 1)
abbrev ms_2 (t : Fin cfg0.N) : Memref sig .tc .vmem S1x5120 .f32 := win0_2.stage (cfg0.slots t 2)
abbrev ms_3 (t : Fin cfg0.N) : Memref sig .tc .vmem S64x5120 .bf16 := win0_3.stage (cfg0.slots t 3)
abbrev ms_4 (t : Fin cfg0.N) : Memref sig .tc .vmem S64x27648 .fp8e4m3 := win0_4.stage (cfg0.slots t 4)
abbrev ms_5 (t : Fin cfg0.N) : Memref sig .tc .vmem S64x1 .f32 := win0_5.stage (cfg0.slots t 5)

/-- An input's buffer is handed back with its block. -/
theorem leaves_0 (c : Dev nD) (t : Fin cfg0.N) : (dats m 0 c).leavesExact 0 t = owns (c : Thread nD τ) (ms_0 t) fullShare (iblk m c 0 t) := by
  unfold Dat.leavesExact; rw [show cfg0.idle 0 (cfg0.grid.coords t) = false from rfl, after_0]
/-- The same of the weights. -/
theorem leaves_1 (c : Dev nD) (t : Fin cfg0.N) : (dats m 0 c).leavesExact 1 t = owns (c : Thread nD τ) (ms_1 t) fullShare (iblk m c 1 t) := by
  unfold Dat.leavesExact; rw [show cfg0.idle 1 (cfg0.grid.coords t) = false from rfl, after_1]
/-- The same of the weights' scales. -/
theorem leaves_2 (c : Dev nD) (t : Fin cfg0.N) : (dats m 0 c).leavesExact 2 t = owns (c : Thread nD τ) (ms_2 t) fullShare (iblk m c 2 t) := by
  unfold Dat.leavesExact; rw [show cfg0.idle 2 (cfg0.grid.coords t) = false from rfl, after_2]

/-- Before the last point the first result's buffer is handed back as found. -/
theorem leaves_3_mid (c : Dev nD) (t : Fin cfg0.N) (h : t.val ≠ 26) :
    (dats m 0 c).leavesExact 3 t = iprop(∃ d, owns (c : Thread nD τ) (ms_3 t) fullShare ((dats m 0 c).before 3 t d)) :=
  (dats m 0 c).leavesExact_idle 3 t ((idle_3 t).trans (by rw [decide_eq_false h]; rfl)) ((flush_3 t).trans (decide_eq_false h))

/-- At the last point it is handed back with the scaled product. -/
theorem leaves_3_last (c : Dev nD) (t : Fin cfg0.N) (h : t.val = 26) :
    (dats m 0 c).leavesExact 3 t = owns (c : Thread nD τ) (ms_3 t) fullShare (productOf m c t) := by
  unfold Dat.leavesExact
  rw [show cfg0.idle 3 (cfg0.grid.coords t) = false from (idle_3 t).trans (by rw [decide_eq_true h]; rfl), after_3]

/-- The codes' buffer is handed back with the codes, at every point. -/
theorem leaves_4 (c : Dev nD) (t : Fin cfg0.N) :
    owns (c : Thread nD τ) (ms_4 t) fullShare (codesOf (rows m c)) ⊢ ((dats m 0 c).leavesExact 4 t : sProp 𝕄) := by
  by_cases h : t.val = 0
  · unfold Dat.leavesExact
    rw [show cfg0.idle 4 (cfg0.grid.coords t) = false from (idle_4 t).trans (by rw [decide_eq_true h]; rfl), after_4]
  · have hi : cfg0.idle 4 (cfg0.grid.coords t) = true := (idle_4 t).trans (by rw [decide_eq_false h]; rfl)
    by_cases hl : t.val = 26
    · unfold Dat.leavesExact
      rw [hi, show (cfg0.win 4).flush t = true from (flush_4 t).trans (decide_eq_true hl), after_4]
    · rw [(dats m 0 c).leavesExact_idle 4 t hi ((flush_4 t).trans (decide_eq_false hl))]
      iintro H
      iexists (codesOf (rows m c)); rw [before_4 m c t h]; iexact H

/-- The scales' buffer is handed back with the scales, at every point. -/
theorem leaves_5 (c : Dev nD) (t : Fin cfg0.N) :
    owns (c : Thread nD τ) (ms_5 t) fullShare (scalesOf (rows m c)) ⊢ ((dats m 0 c).leavesExact 5 t : sProp 𝕄) := by
  by_cases h : t.val = 0
  · unfold Dat.leavesExact
    rw [show cfg0.idle 5 (cfg0.grid.coords t) = false from (idle_5 t).trans (by rw [decide_eq_true h]; rfl), after_5]
  · have hi : cfg0.idle 5 (cfg0.grid.coords t) = true := (idle_5 t).trans (by rw [decide_eq_false h]; rfl)
    by_cases hl : t.val = 26
    · unfold Dat.leavesExact
      rw [hi, show (cfg0.win 5).flush t = true from (flush_5 t).trans (decide_eq_true hl), after_5]
    · rw [(dats m 0 c).leavesExact_idle 5 t hi ((flush_5 t).trans (decide_eq_false hl))]
      iintro H
      iexists (scalesOf (rows m c)); rw [before_5 m c t h]; iexact H

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The invariant before a point, by the point's number. -/
theorem inv_castSucc (c : Dev nD) (t : Fin cfg0.N) : (dats m 0 c).Φ t.castSucc = inv m c t.val := by
  dsimp only [dats]; rfl

set_option maxHeartbeats 1600000 in
/-- The body at any point takes the invariant and the buffers to the next point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, inv_castSucc,
    show (dats m 0 c).Φ t.succ = inv m c (t.val + 1) from rfl, inv_pos m c (t.val + 1) (Nat.succ_ne_zero _),
    leaves_0, leaves_1, leaves_2, accAt_succ]
  have hN : t.val < 27 := lt_of_lt_of_eq t.isLt points
  by_cases h0 : t.val = 0
  · have e : t = t0 := Fin.ext h0
    rw [leaves_3_mid m c t (by omega)]
    have hacc : accAt m c t.val = k0_pay2 := by rw [h0]; rfl
    have hrows : rows m c = iblk m c 0 t := by rw [e]; rfl
    rw [hacc]
    rw [show inv m c t.val = Pipeline.ΦA spec0 c from by rw [h0]; rfl, start_eq]
    iintro ⟨⟨HS, Hg⟩, Ho, ⟨%d0, H0⟩, ⟨%d1, H1⟩, ⟨%d2, H2⟩, H3, ⟨%d4, H4⟩, ⟨%d5, H5⟩⟩
    iapply (run_first c (grid0.coords t) _ _ _ _ _ _ _ _ _ _ _ _ _ _ ((isFirst_iff t).mpr h0) (fun h => by have := (isLast_iff t).mp h; omega)
      (iblk m c 0 t) (iblk m c 1 t) Set.univ _)
    isplitl [H0]; · iexact H0
    isplitl [H1]; · iexact H1
    isplitl [H4]; · iexists _; iexact H4
    isplitl [H5]; · iexists _; iexact H5
    isplitl [HS]; · iexact HS
    iintro ⟨H0, H1, H4, H5, HS⟩
    isplitl [HS Hg]
    · isplitl [HS]
      · rw [hrows]; iexact HS
      iexact Hg
    isplitl [Ho]; · iexact Ho
    isplitl [H0]; · iexact H0
    isplitl [H1]; · iexact H1
    isplitl [H2]; · iexact H2
    isplitl [H3]; · iexact H3
    isplitl [H4]
    · iapply (leaves_4 m c t); rw [hrows]; iexact H4
    iapply (leaves_5 m c t); rw [hrows]; iexact H5
  · simp only [before_4 m c t h0, before_5 m c t h0]
    rw [inv_pos m c t.val h0]
    by_cases h1 : t.val = 26
    · rw [leaves_3_last m c t h1]
      have hp : productOf m c t = k0_pay4 (k0_pay3 (accAt m c t.val) (colsOf (grid0.coords t) (codesOf (rows m c))) (weights m c t))
          (scalesOf (rows m c)) (weightScales m c t) := by
        unfold productOf
        rw [← accAt_succ]
        exact congrArg (fun n => k0_pay4 (accAt m c n) (scalesOf (rows m c)) (weightScales m c t)) (points.trans (by omega))
      rw [hp]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ (fun h => h0 ((isFirst_iff t).mp h)) ((isLast_iff t).mpr h1)
        (iblk m c 1 t) (iblk m c 2 t) (codesOf (rows m c)) (scalesOf (rows m c)) (accAt m c t.val) Set.univ _)
      isplitl [H1]; · iexact H1
      isplitl [H2]; · iexact H2
      isplitl [H3]; · iexists _; iexact H3
      isplitl [H4]; · iexact H4
      isplitl [H5]; · iexact H5
      isplitl [HS]; · iexact HS
      iintro ⟨H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]
      · iapply (leaves_4 m c t); iexact H4
      iapply (leaves_5 m c t); iexact H5
    · rw [leaves_3_mid m c t h1]
      iintro ⟨⟨HS, Hg⟩, Ho, ⟨%d0, H0⟩, ⟨%d1, H1⟩, ⟨%d2, H2⟩, H3, ⟨%d4, H4⟩, ⟨%d5, H5⟩⟩
      iapply (run_mid c (grid0.coords t) _ _ _ _ _ _ _ _ _ _ _ _ _ _ (fun h => h0 ((isFirst_iff t).mp h)) (fun h => h1 ((isLast_iff t).mp h))
        (iblk m c 1 t) (codesOf (rows m c)) (accAt m c t.val) Set.univ _)
      isplitl [H1]; · iexact H1
      isplitl [H4]; · iexact H4
      isplitl [HS]; · iexact HS
      iintro ⟨H1, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]
      · iapply (leaves_4 m c t); iexact H4
      iapply (leaves_5 m c t); iexact H5

/-- The body that the pipeline calls at a point is the printed one on the point's buffers. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's invariant is the one before the first point. -/
theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  rw [show (dats m 0 c).Φ (Fin.last cfg0.N) = inv m c (Fin.last cfg0.N).val from rfl,
    inv_pos m c _ (by rw [Fin.val_last]; have : cfg0.N = 27 := points; omega), start_eq]
  iintro ⟨HS, Hg⟩
  isplitl [HS]
  · iexists _; iexact HS
  iexact Hg

/-! ## The run -/

set_option backward.isDefEq.respectTransparency.types false in
/-- Every execution ends, the windowed arrays as the proof data say, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every execution ends, the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_quiescent m ρ))

end Cert.KernelIdeal.Own

end
-- ==== Proof.KernelIdeal.Arrays.lean ====
/- The arrays after the run of the kernel: each result is written back once, whole, at the last point. -/
module

public import proofs.«01_k».proof.Proof.KernelIdeal.Frame
public import Idealize.ShloMosaic.Lib.Pipeline.ValueKit
public import Idealize.ShloMosaic.Lib.Pointwise

@[expose] public section

set_option maxRecDepth 16384

noncomputable section

namespace Cert.KernelIdeal.Own

open Idealize.ShloMosaic Idealize.ShloMosaic.TcCoe Idealize.ShloMosaic.Tactic
open Cert.KernelIdeal.Gen
open Idealize.SL Idealize.SL.Sem

variable {F : FTy → Type} [FloatOps F]

variable (m : (ℓ : Loc nD τ sig) → Buf (Elt F) ℓ) (ρ : Dev nD → PrngReg)

/-- The last point. -/
abbrev tLast : Fin cfg0.N := ⟨26, by rw [points]; decide⟩

/-- The first result is written back once, whole, at the last point. -/
theorem whole_3 : (cfg0.win 3).WholeAt tLast := by decide +kernel

/-- The second result is written back once, whole, at the last point. -/
theorem whole_4 : (cfg0.win 4).WholeAt tLast := by decide +kernel

/-- The third result is written back once, whole, at the last point. -/
theorem whole_5 : (cfg0.win 5).WholeAt tLast := by decide +kernel

/-- The first result after the run. -/
theorem array_3 (c : Dev nD) : (dats m 0 c).arrAt 3 cfg0.N = productOf m c tLast := by
  refine (dats m 0 c).arrAt_eq_of_after_last 3 tLast whole_3 _ fun j => ?_
  rw [after_3]
  rfl

/-- The second result after the run. -/
theorem array_4 (c : Dev nD) : (dats m 0 c).arrAt 4 cfg0.N = codesOf (rows m c) := by
  refine (dats m 0 c).arrAt_eq_of_after_last 4 tLast whole_4 _ fun j => ?_
  rw [after_4]
  rfl

/-- The third result after the run. -/
theorem array_5 (c : Dev nD) : (dats m 0 c).arrAt 5 cfg0.N = scalesOf (rows m c) := by
  refine (dats m 0 c).arrAt_eq_of_after_last 5 tLast whole_5 _ fun j => ?_
  rw [after_5]
  rfl

/-- The whole run: the three results, and the arguments as they were. -/
theorem run_results : θ_run defs (onTc (τ := τ) (main (F := F))) ⟨m, fun _ => 0, ρ⟩ fun r => ∀ c : Dev nD,
      r.2.mem ((c : Thread nD τ).loc main_v2_0) = productOf m c tLast
      ∧ r.2.mem ((c : Thread nD τ).loc main_v2_1) = codesOf (rows m c)
      ∧ r.2.mem ((c : Thread nD τ).loc main_v2_2) = scalesOf (rows m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (array_3 m c), ((h c).1 4).trans (array_4 m c),
      ((h c).1 5).trans (array_5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

/-! ## The blocks, by the arrays -/

/-- The first window's block is the whole array at every point. -/
theorem index_0 : ∀ t : Fin cfg0.N, win0_0.index t = ![0, 0] :=
  (by decide +kernel : ∀ t : Fin grid0.N, _)

/-- The second window's block is the next 1024 rows at every point. -/
theorem index_1 : ∀ t : Fin cfg0.N, win0_1.index t = ![t.val, 0] :=
  (by decide +kernel : ∀ t : Fin grid0.N, _)

/-- The third window's block is the whole array at every point. -/
theorem index_2 : ∀ t : Fin cfg0.N, win0_2.index t = ![0, 0] :=
  (by decide +kernel : ∀ t : Fin grid0.N, _)

/-- The rows are the whole array the first window stages. -/
theorem rows_eq (c : Dev nD) : rows m c = V m c main_v0 := by
  unfold rows
  blk_ext! [iblk, index_0 t0]

/-- The weights' scales are the whole array the third window stages, at every point. -/
theorem weightScales_eq (c : Dev nD) (t : Fin cfg0.N) : weightScales m c t = V m c main_v1 := by
  unfold weightScales
  blk_ext! [iblk, index_2 t]

/-- A point's block of weights is 1024 rows of the argument. -/
theorem weights_apply (c : Dev nD) (t : Fin cfg0.N) (k : Fin 1024) (j : Fin 5120) (l : Fin 27648) (h : l.val = t.val * 1024 + k.val) :
    weights m c t (ix2 k j) = m ((c : Thread nD τ).loc main_arg1) (ix2 l j) := by
  rw [← V_main_arg1 m c]
  unfold weights iblk
  blk_simp [index_1 t]
  refine congrArg (V m c main_arg1) (funext fun a => Fin.ext ?_)
  match a with
  | ⟨0, _⟩ => blk_simp [index_1 t]; exact h.symm
  | ⟨1, _⟩ => blk_simp [index_1 t]

/-- The first column a point multiplies. -/
theorem offset_eq (t : Fin cfg0.N) : k0_off1 (grid0.coords t) = ![0, t.val * 1024] := by
  have ht : t.val < 27 := Nat.lt_of_lt_of_eq t.isLt points
  have e0 : (grid0.coords t 0).val = t.val / 1 % 27 := Pipeline.Grid.coords_val t 0 (by decide) rfl
  rw [k0_off1_eq, e0, Nat.div_one, Nat.mod_eq_of_lt ht, Nat.mul_comm]

/-- The columns a point multiplies, read off the codes. -/
theorem colsOf_apply (t : Fin cfg0.N) (q : Vec F S64x27648 .fp8e4m3) (r : Fin 64) (k : Fin 1024) (l : Fin 27648)
    (h : l.val = t.val * 1024 + k.val) : colsOf (grid0.coords t) q (ix2 r k) = q (ix2 r l) := by
  unfold colsOf VecWindow.window
  refine congrArg q (funext fun a => Fin.ext ?_)
  rw [Rect.emb_apply]
  match a with
  | ⟨0, _⟩ =>
    show k0_off1 (grid0.coords t) 0 + 1 * r.val = r.val
    rw [offset_eq]; show 0 + 1 * r.val = r.val; omega
  | ⟨1, _⟩ =>
    show k0_off1 (grid0.coords t) 1 + 1 * k.val = l.val
    rw [offset_eq]; show t.val * 1024 + 1 * k.val = l.val; omega

end Cert.KernelIdeal.Own

end
-- ==== Proof.Math.Powers.lean ====
/- The words `n << 23` read as numbers: an increasing table of powers of two, and the greatest of them
   that a number reaches, found by bisection. -/
module

public import Idealize.ShloMosaic.PureOps.Ideal.Laws
public import Idealize.ShloMosaic.Lib.ValueIdxCore

@[expose] public section

set_option maxRecDepth 16384

noncomputable section

namespace Cert.Powers

open Idealize.ShloMosaic

/-- The number whose exponent field is `n` and whose other bits are zero. -/
def power (n : BitVec 32) : EReal := Ideal.ofBits .f32 (IntOp.shli .vector n 23#32)

/-- The fields of the word `n << 23`: sign zero, exponent `n`, significand zero. -/
theorem fields : ∀ n : Fin 256, ((IntOp.shli .vector (BitVec.ofNat 32 n.val) 23#32).extractLsb' 23 8).toNat = n.val
    ∧ ((IntOp.shli .vector (BitVec.ofNat 32 n.val) 23#32).extractLsb' 0 23).toNat = 0
    ∧ ((IntOp.shli .vector (BitVec.ofNat 32 n.val) 23#32).extractLsb' 31 1 == 1#1) = false := by
  decide +kernel

/-- The table: 0, then the powers of two from `2 ^ -126` to `2 ^ 127`, then infinity. -/
theorem power_eq (n : ℕ) (h : n < 256) : power (BitVec.ofNat 32 n) =
    if n = 255 then ⊤ else if n = 0 then 0 else (((2 : ℝ) ^ 23 * (2 : ℝ) ^ ((n : ℤ) - 127 - 23) : ℝ) : EReal) := by
  obtain ⟨h1, h2, h3⟩ := fields ⟨n, h⟩
  unfold power
  show Ideal.ieee 8 23 _ = _
  unfold Ideal.ieee
  simp only [h1, h2, h3]
  norm_num

/-- The table increases. -/
theorem power_mono (a b : ℕ) (hb : b < 256) (hab : a ≤ b) : power (BitVec.ofNat 32 a) ≤ power (BitVec.ofNat 32 b) := by
  rw [power_eq a (by omega), power_eq b hb]
  by_cases h1 : b = 255
  · rw [if_pos h1]; exact le_top
  · rw [if_neg h1, if_neg (show ¬a = 255 by omega)]
    by_cases h2 : a = 0
    · rw [if_pos h2]
      by_cases h3 : b = 0
      · rw [if_pos h3]
      · rw [if_neg h3]
        exact EReal.coe_nonneg.mpr (by positivity)
    · rw [if_neg h2, if_neg (show ¬b = 0 by omega), EReal.coe_le_coe_iff]
      exact mul_le_mul_of_nonneg_left (zpow_le_zpow_right₀ (by norm_num) (by omega)) (by positivity)

/-- Whether `v` reaches the `n`-th power, as the compare's bit. -/
def reaches (v : EReal) (n : BitVec 32) : BitVec 1 := Ideal.cmp .oge v (power n)

/-- Some `k` tells, for every power but the zeroth, whether `v` reaches it. -/
theorem exists_top (v : EReal) : ∃ k : ℕ, k ≤ 255 ∧ ∀ n : ℕ, n ≠ 0 → n < 256 →
    reaches v (BitVec.ofNat 32 n) = if n ≤ k then 1#1 else 0#1 := by
  classical
  refine ⟨Nat.findGreatest (fun n => power (BitVec.ofNat 32 n) ≤ v) 255, Nat.findGreatest_le 255, fun n h0 hn => ?_⟩
  show BitVec.ofBool (decide (power (BitVec.ofNat 32 n) ≤ v)) = _
  by_cases h : power (BitVec.ofNat 32 n) ≤ v
  · rw [if_pos (Nat.le_findGreatest (P := fun n => power (BitVec.ofNat 32 n) ≤ v) (by omega) h), decide_eq_true h]; rfl
  · rw [if_neg, decide_eq_false h]; rfl
    intro hle
    have hk : Nat.findGreatest (fun n => power (BitVec.ofNat 32 n) ≤ v) 255 ≠ 0 := by omega
    have hP : power (BitVec.ofNat 32 (Nat.findGreatest (fun n => power (BitVec.ofNat 32 n) ≤ v) 255)) ≤ v :=
      Nat.findGreatest_of_ne_zero (P := fun n => power (BitVec.ofNat 32 n) ≤ v) rfl hk
    have hb : Nat.findGreatest (fun n => power (BitVec.ofNat 32 n) ≤ v) 255 ≤ 255 := Nat.findGreatest_le 255
    exact h ((power_mono n _ (by omega) hle).trans hP)

/-- One step of the bisection: try the field with one more bit. -/
def step (v : EReal) (bit field : BitVec 32) : BitVec 32 :=
  Scalar.select (reaches v (IntOp.addi field bit)) (IntOp.addi field bit) field

/-- The bisection over the eight bits of the field. -/
def bisect (v : EReal) : BitVec 32 :=
  step v 1#32 (step v 2#32 (step v 4#32 (step v 8#32 (step v 16#32 (step v 32#32 (step v 64#32 (step v 128#32 0#32)))))))

/-- A step turns the bits of `k` above `2 * b` into its bits above `b`. -/
theorem step_eq (v : EReal) (k : ℕ) (h : ∀ n : ℕ, n ≠ 0 → n < 256 → reaches v (BitVec.ofNat 32 n) = if n ≤ k then 1#1 else 0#1)
    (b f g : ℕ) (hb : b ≠ 0) (hfb : f + b < 256) (hg : g = if f + b ≤ k then f + b else f) :
    step v (BitVec.ofNat 32 b) (BitVec.ofNat 32 f) = BitVec.ofNat 32 g := by
  have e : IntOp.addi (BitVec.ofNat 32 f) (BitVec.ofNat 32 b) = BitVec.ofNat 32 (f + b) := (BitVec.ofNat_add f b).symm
  unfold step
  rw [e, h (f + b) (by omega) hfb, hg]
  by_cases hk : f + b ≤ k
  · rw [if_pos hk, if_pos hk]; rfl
  · rw [if_neg hk, if_neg hk]; rfl

/-- The bisection finds the last power reached. -/
theorem bisect_eq (v : EReal) (k : ℕ) (hk : k ≤ 255)
    (h : ∀ n : ℕ, n ≠ 0 → n < 256 → reaches v (BitVec.ofNat 32 n) = if n ≤ k then 1#1 else 0#1) :
    bisect v = BitVec.ofNat 32 k := by
  unfold bisect
  rw [show (0#32 : BitVec 32) = BitVec.ofNat 32 0 from rfl,
    step_eq v k h 128 0 (k / 128 * 128) (by omega) (by omega) (by split <;> omega),
    step_eq v k h 64 (k / 128 * 128) (k / 64 * 64) (by omega) (by omega) (by split <;> omega),
    step_eq v k h 32 (k / 64 * 64) (k / 32 * 32) (by omega) (by omega) (by split <;> omega),
    step_eq v k h 16 (k / 32 * 32) (k / 16 * 16) (by omega) (by omega) (by split <;> omega),
    step_eq v k h 8 (k / 16 * 16) (k / 8 * 8) (by omega) (by omega) (by split <;> omega),
    step_eq v k h 4 (k / 8 * 8) (k / 4 * 4) (by omega) (by omega) (by split <;> omega),
    step_eq v k h 2 (k / 4 * 4) (k / 2 * 2) (by omega) (by omega) (by split <;> omega),
    step_eq v k h 1 (k / 2 * 2) k (by omega) (by omega) (by split <;> omega)]

/-- The entries of the reference's row: `n` where `v` reaches the `n`-th power, 0 elsewhere. -/
def entry (v : EReal) (n : Fin 256) : BitVec 32 :=
  Scalar.select (reaches v (BitVec.ofNat 32 n.val)) (BitVec.ofNat 32 n.val) 0#32

/-- The signed maximum of two words is the maximum of their values. -/
theorem maxsi_toInt (x y : BitVec 32) : (IntOp.maxsi x y).toInt = max x.toInt y.toInt := by
  unfold IntOp.maxsi
  simp only [BitVec.slt, decide_eq_true_eq]
  split <;> omega

/-- The greatest entry is the last power reached. -/
theorem greatest_eq (v : EReal) (k : ℕ) (hk : k ≤ 255)
    (h : ∀ n : ℕ, n ≠ 0 → n < 256 → reaches v (BitVec.ofNat 32 n) = if n ≤ k then 1#1 else 0#1) :
    (Finset.univ : Finset (Fin 256)).fold IntOp.maxsi 2147483648#32 (entry v) = BitVec.ofNat 32 k := by
  have he : entry v = fun n : Fin 256 => if n.val ≤ k then BitVec.ofNat 32 n.val else 0#32 := by
    funext n
    unfold entry
    by_cases h0 : n.val = 0
    · rw [h0, if_pos (Nat.zero_le k)]
      rcases BitVec.eq_zero_or_eq_one (reaches v (BitVec.ofNat 32 0)) with e | e <;> rw [e] <;> rfl
    · rw [h n.val h0 n.isLt]
      by_cases hn : n.val ≤ k
      · rw [if_pos hn, if_pos hn]; rfl
      · rw [if_neg hn, if_neg hn]; rfl
  have hz : ∀ n : ℕ, n < 256 → (BitVec.ofNat 32 n).toInt = n := fun n hn =>
    (by decide +kernel : ∀ n : Fin 256, (BitVec.ofNat 32 n.val).toInt = n.val) ⟨n, hn⟩
  refine BitVec.eq_of_toInt_eq ?_
  rw [he, ← Finset.fold_hom (op' := max) (m := fun x : BitVec 32 => x.toInt) maxsi_toInt, hz k (by omega)]
  refine le_antisymm ((Finset.fold_max_le _).mpr ⟨?_, fun n _ => ?_⟩) ((Finset.le_fold_max _).mpr (.inr ⟨⟨k, by omega⟩, Finset.mem_univ _, ?_⟩))
  · rw [show (2147483648#32 : BitVec 32).toInt = -2147483648 from by decide]; omega
  · by_cases hn : n.val ≤ k
    · rw [if_pos hn, hz n.val n.isLt]; omega
    · rw [if_neg hn, show (0#32 : BitVec 32).toInt = 0 from by decide]; omega
  · simp only [le_refl, if_true]; rw [hz k (by omega)]

/-- So the two programs find the same field. -/
theorem bisect_eq_greatest (v : EReal) :
    bisect v = (Finset.univ : Finset (Fin 256)).fold IntOp.maxsi 2147483648#32 (entry v) := by
  obtain ⟨k, hk, h⟩ := exists_top v
  rw [bisect_eq v k hk h, greatest_eq v k hk h]

/-- The field found lies below 256. -/
theorem bisect_lt (v : EReal) : ∃ k : Fin 256, bisect v = BitVec.ofNat 32 k.val := by
  obtain ⟨k, hk, h⟩ := exists_top v
  exact ⟨⟨k, by omega⟩, bisect_eq v k hk h⟩

/-! ## From the field to the two scales' words -/

/-- The exponent, as the kernel computes it from the field; `z` says that the row is zero. -/
def exponent (z : BitVec 1) (field : BitVec 32) : BitVec 32 :=
  Scalar.select z 0#32 (Scalar.select (IntOp.ori (IntOp.cmpi .eq field 0#32) (IntOp.cmpi .eq field 255#32)) 0#32 (IntOp.subi field 126#32))

/-- The exponent, as the reference computes it. -/
def exponent' (z : BitVec 1) (field : BitVec 32) : BitVec 32 :=
  Scalar.select z 0#32 (Scalar.select (IntOp.andi (IntOp.cmpi .sgt field 0#32) (IntOp.cmpi .slt field 255#32)) (IntOp.subi field 126#32) 0#32)

/-- The word of a power of two, as the kernel computes it from the exponent. -/
def ldexpWord (e : BitVec 32) : BitVec 32 :=
  Scalar.select (IntOp.cmpi .sle (IntOp.addi (IntOp.minsi 512#32 (IntOp.maxsi 4294966784#32 e)) 127#32) 0#32) 0#32
    (Scalar.select (IntOp.cmpi .sge (IntOp.addi (IntOp.minsi 512#32 (IntOp.maxsi 4294966784#32 e)) 127#32) 255#32) 2139095040#32
      (IntOp.shli .vector (IntOp.addi (IntOp.minsi 512#32 (IntOp.maxsi 4294966784#32 e)) 127#32) 23#32))

/-- The two programs' words of the scale agree, for every field. -/
theorem scale_word : ∀ (z : Fin 2) (k : Fin 256), ldexpWord (exponent (BitVec.ofNat 1 z.val) (BitVec.ofNat 32 k.val))
    = IntOp.shli .vector (IntOp.addi 127#32 (exponent' (BitVec.ofNat 1 z.val) (BitVec.ofNat 32 k.val))) 23#32 := by
  decide +kernel

/-- The two programs' words of the inverse scale agree, for every field. -/
theorem inverse_word : ∀ (z : Fin 2) (k : Fin 256),
    ldexpWord (IntOp.subi 0#32 (exponent (BitVec.ofNat 1 z.val) (BitVec.ofNat 32 k.val)))
    = IntOp.shli .vector (IntOp.maxsi (IntOp.subi 127#32 (exponent' (BitVec.ofNat 1 z.val) (BitVec.ofNat 32 k.val))) 0#32) 23#32 := by
  decide +kernel

/-- A bit is one of two. -/
theorem bit_cases (z : BitVec 1) : ∃ n : Fin 2, z = BitVec.ofNat 1 n.val := by
  rcases BitVec.eq_zero_or_eq_one z with e | e
  · exact ⟨0, e⟩
  · exact ⟨1, e⟩

/-- The scale's word from the number whose exponent is taken: kernel and reference agree. -/
theorem scale_word_eq (z : BitVec 1) (v : EReal) : ldexpWord (exponent z (bisect v))
    = IntOp.shli .vector (IntOp.addi 127#32
        (exponent' z ((Finset.univ : Finset (Fin 256)).fold IntOp.maxsi 2147483648#32 (entry v)))) 23#32 := by
  rw [← bisect_eq_greatest]
  obtain ⟨n, rfl⟩ := bit_cases z
  obtain ⟨k, e⟩ := bisect_lt v
  rw [e]
  exact scale_word n k

/-- The inverse scale's word from the number whose exponent is taken: kernel and reference agree. -/
theorem inverse_word_eq (z : BitVec 1) (v : EReal) : ldexpWord (IntOp.subi 0#32 (exponent z (bisect v)))
    = IntOp.shli .vector (IntOp.maxsi (IntOp.subi 127#32
        (exponent' z ((Finset.univ : Finset (Fin 256)).fold IntOp.maxsi 2147483648#32 (entry v)))) 0#32) 23#32 := by
  rw [← bisect_eq_greatest]
  obtain ⟨n, rfl⟩ := bit_cases z
  obtain ⟨k, e⟩ := bisect_lt v
  rw [e]
  exact inverse_word n k

end Cert.Powers

end
-- ==== Proof.Math.Scales.lean ====
/- The scales and the codes, index by index: what the kernel's first point stores is what the reference stores. -/
module

public import proofs.«01_k».proof.Proof.Math.Powers
public import proofs.«01_k».proof.Proof.KernelIdeal.Values
public import proofs.«01_k».proof.Proof.Gen.ReferenceIdeal.Skeleton
public import Idealize.ShloMosaic.Lib.Pointwise

@[expose] public section

set_option maxRecDepth 16384

noncomputable section

namespace Cert.Scales

open Idealize.ShloMosaic Cert.Powers Cert.KernelIdeal Cert.KernelIdeal.Own

variable (x : Vec Ideal S64x27648 .bf16)

/-- The greatest magnitude of each row. -/
def amax (i : S64x1.Idx) : EReal := Cert.KernelIdeal.Gen.k0_pay6 (F := Ideal) x i

/-- The number whose exponent is taken: the greatest magnitude over 448. -/
def scaled (i : S64x1.Idx) : EReal := Cert.KernelIdeal.Gen.k0_pay7 (F := Ideal) x i

/-- Whether the row is zero. -/
def isZero (i : S64x1.Idx) : BitVec 1 := Ideal.cmp .oeq (amax x i) (Ideal.ofBits .f32 0x00000000#32)

/-- One step of the kernel's bisection, on the column of rows. -/
def stepCol (v : FVec Ideal S64x1 .f32) (bit : BitVec 32) (f : IVec S64x1 32) : IVec S64x1 32 :=
  select (cmpf .oge v (bitcastToFloat .f32 (shli (addi f (broadcast S64x1 bit)) (broadcast S64x1 23#32)))) (addi f (broadcast S64x1 bit)) f

/-- A step acts on each row by itself. -/
theorem stepCol_apply (v : FVec Ideal S64x1 .f32) (bit : BitVec 32) (f : IVec S64x1 32) (i : S64x1.Idx) :
    stepCol v bit f i = step (v i) bit (f i) := rfl

/-- The first three steps. -/
theorem first_steps : Cert.KernelIdeal.Gen.k0_pay8 (F := Ideal) x =
    stepCol (Cert.KernelIdeal.Gen.k0_pay7 x) 32#32 (stepCol (Cert.KernelIdeal.Gen.k0_pay7 x) 64#32
      (stepCol (Cert.KernelIdeal.Gen.k0_pay7 x) 128#32 (broadcast S64x1 0#32))) := rfl

/-- The last five steps, the fourth begun by the compare that the previous part of the body made. -/
theorem last_steps (v : FVec Ideal S64x1 .f32) (f : IVec S64x1 32) :
    Cert.KernelIdeal.Gen.k0_pay11 (F := Ideal) v f
      (cmpf .oge v (bitcastToFloat .f32 (shli (addi f (broadcast S64x1 16#32)) (broadcast S64x1 23#32)))) (broadcast S64x1 16#32)
    = stepCol v 1#32 (stepCol v 2#32 (stepCol v 4#32 (stepCol v 8#32 (stepCol v 16#32 f)))) := rfl

/-- The kernel's field of a row is the bisection's. -/
theorem field_eq (i : S64x1.Idx) : fieldOf (F := Ideal) x i = bisect (scaled x i) := by
  have e : fieldOf (F := Ideal) x = _ := last_steps (Cert.KernelIdeal.Gen.k0_pay7 x) (Cert.KernelIdeal.Gen.k0_pay8 x)
  rw [e, first_steps]
  simp only [stepCol_apply]
  unfold bisect scaled
  rfl

/-- Whether a field is at an edge. -/
theorem edge_eq (i : S64x1.Idx) : edgeOf (F := Ideal) x i
    = IntOp.ori (IntOp.cmpi .eq (fieldOf (F := Ideal) x i) 0#32) (IntOp.cmpi .eq (fieldOf (F := Ideal) x i) 255#32) := rfl

/-- The exponent of a row from its field. -/
theorem exponent_eq (a : FVec Ideal S64x1 .f32) (f : IVec S64x1 32) (e : IVec S64x1 1) (i : S64x1.Idx) :
    Cert.KernelIdeal.Gen.k0_pay14 (F := Ideal) a f e Cert.KernelIdeal.Gen.k0_pay13 126#32 i
    = Scalar.select (Ideal.cmp .oeq (a i) (Ideal.ofBits .f32 0x00000000#32)) 0#32 (Scalar.select (e i) 0#32 (IntOp.subi (f i) 126#32)) := rfl

/-- The scale from the exponent. -/
theorem scale_of_exponent (a : FVec Ideal S64x1 .f32) (f : IVec S64x1 32) (e : IVec S64x1 1) (z : IVec S64x1 32) (c : BitVec 32) (i : S64x1.Idx) :
    Cert.KernelIdeal.Gen.k0_pay15 (F := Ideal) a f e z c i
    = Ideal.ofBits .f32 (ldexpWord (Cert.KernelIdeal.Gen.k0_pay14 (F := Ideal) a f e z c i)) := rfl

/-- The kernel's exponent of a row. -/
theorem kernel_exponent (i : S64x1.Idx) :
    Cert.KernelIdeal.Gen.k0_pay14 (F := Ideal) (Cert.KernelIdeal.Gen.k0_pay6 x) (fieldOf x) (edgeOf x) Cert.KernelIdeal.Gen.k0_pay13 126#32 i
    = exponent (isZero x i) (bisect (scaled x i)) := by
  rw [exponent_eq, edge_eq, field_eq]
  unfold exponent isZero amax
  rfl

/-- The kernel's scale of a row. -/
theorem scales_eq (i : S64x1.Idx) :
    scalesOf (F := Ideal) x i = Ideal.ofBits .f32 (ldexpWord (exponent (isZero x i) (bisect (scaled x i)))) := by
  unfold scalesOf
  rw [scale_of_exponent, kernel_exponent]

/-- The reference's exponent from the greatest magnitudes `v5` and their quotients by 448 `v7`. -/
def referenceExponent (v5 v7 : FVec Ideal S64x1 .f32) : IVec S64x1 32 :=
  have v8 : IVec Cert.ReferenceIdeal.S1x256 32 := iota .tc Cert.ReferenceIdeal.S1x256 32 [1] Cert.ReferenceIdeal.Gen.iota_S1x256_d1_w32
  have v9 : IVec Cert.ReferenceIdeal.S1x256 32 := broadcast Cert.ReferenceIdeal.S1x256 23#32
  have v10 : IVec Cert.ReferenceIdeal.S1x256 32 := shli v8 v9
  have v11 : FVec Ideal Cert.ReferenceIdeal.S1x256 .f32 := bitcastToFloat .f32 v10
  have v12 : FVec Ideal Cert.ReferenceIdeal.S64x256 .f32 := broadcastTo Cert.ReferenceIdeal.S64x256 v7 Cert.ReferenceIdeal.Gen.broadcasts_S64x1_S64x256
  have v13 : FVec Ideal Cert.ReferenceIdeal.S64x256 .f32 := broadcastTo Cert.ReferenceIdeal.S64x256 v11 Cert.ReferenceIdeal.Gen.broadcasts_S1x256_S64x256
  have v14 : IVec Cert.ReferenceIdeal.S64x256 1 := cmpf .oge v12 v13
  have v15 : IVec Cert.ReferenceIdeal.S1x256 32 := shapeCast Cert.ReferenceIdeal.S1x256 v8 Cert.ReferenceIdeal.Gen.shapeCasts_S1x256_S1x256
  have v16 : IVec Cert.ReferenceIdeal.S64x256 32 := broadcastTo Cert.ReferenceIdeal.S64x256 v15 Cert.ReferenceIdeal.Gen.broadcasts_S1x256_S64x256
  have v17 : IVec Cert.ReferenceIdeal.S64x256 32 := broadcast Cert.ReferenceIdeal.S64x256 0#32
  have v18 : IVec Cert.ReferenceIdeal.S64x256 32 := select v14 v16 v17
  have v19 : IVec Cert.ReferenceIdeal.S64 32 := multiReductionI .maxsi [1] Cert.ReferenceIdeal.S64 v18 2147483648#32 Cert.ReferenceIdeal.Gen.reduces_S64x256_S64 rfl
  have v20 : IVec S64x1 32 := shapeCast S64x1 v19 Cert.ReferenceIdeal.Gen.shapeCasts_S64_S64x1
  have v21 : IVec S64x1 32 := broadcast S64x1 0#32
  have v22 : IVec S64x1 1 := cmpi .sgt v20 v21
  have v23 : IVec S64x1 32 := broadcast S64x1 255#32
  have v24 : IVec S64x1 1 := cmpi .slt v20 v23
  have v25 : IVec S64x1 1 := andi v22 v24
  have v26 : IVec S64x1 32 := broadcast S64x1 126#32
  have v27 : IVec S64x1 32 := subi v20 v26
  have v28 : IVec S64x1 32 := broadcast S64x1 0#32
  have v29 : IVec S64x1 32 := select v25 v27 v28
  have cst_5 : Ideal .f32 := Scalar.ofBits .f32 0x00000000#32
  have v30 : FVec Ideal S64x1 .f32 := broadcast S64x1 cst_5
  have v31 : IVec S64x1 1 := cmpf .oeq v5 v30
  have v32 : IVec S64x1 32 := broadcast S64x1 0#32
  have v33 : IVec S64x1 32 := select v31 v32 v29
  v33

/-- The reference takes it at the kernel's own greatest magnitudes. -/
theorem reference_exponent_col : Cert.ReferenceIdeal.Gen.k0_pay4 (F := Ideal) x
    = referenceExponent (Cert.KernelIdeal.Gen.k0_pay6 (F := Ideal) x) (Cert.KernelIdeal.Gen.k0_pay7 (F := Ideal) x) := rfl

/-- The reference's exponent, row by row. -/
theorem referenceExponent_apply (a v : FVec Ideal S64x1 .f32) (i : S64x1.Idx) : referenceExponent a v i
    = exponent' (Ideal.cmp .oeq (a i) (Ideal.ofBits .f32 0x00000000#32))
        ((Finset.univ : Finset (Fin 256)).fold IntOp.maxsi 2147483648#32 (entry (v i))) := by
  idx_vars i
  obtain rfl : i1 = 0 := Subsingleton.elim _ _
  unfold exponent' referenceExponent
  pointwise
  unfold entry reaches power
  pointwise

/-- The reference's exponent of a row. -/
theorem reference_exponent (i : S64x1.Idx) : Cert.ReferenceIdeal.Gen.k0_pay4 (F := Ideal) x i
    = exponent' (isZero x i) ((Finset.univ : Finset (Fin 256)).fold IntOp.maxsi 2147483648#32 (entry (scaled x i))) := by
  rw [reference_exponent_col, referenceExponent_apply]
  unfold isZero amax scaled
  rfl

end Cert.Scales

end
-- ==== Proof.Math.Codes.lean ====
/- The scales and the codes: both programs compute the same ones from the same rows. -/
module

public import proofs.«01_k».proof.Proof.Math.Scales

@[expose] public section

set_option maxRecDepth 16384

noncomputable section

namespace Cert.Scales

open Idealize.ShloMosaic Cert.Powers
open Cert.KernelIdeal Cert.KernelIdeal.Own

/-- The reference's scale of a row is the word whose exponent field is 127 plus the reference's exponent. -/
theorem reference_scale_apply (x : Vec Ideal S64x27648 .bf16) (i : S64x1.Idx) :
    Cert.ReferenceIdeal.Gen.k0_pay5 x i
      = Ideal.ofBits .f32 (IntOp.shli .vector (IntOp.addi 127#32 (Cert.ReferenceIdeal.Gen.k0_pay4 x i)) 23#32) := by
  rfl

/-- Both programs give every row the same scale. -/
theorem scales_eq_reference (x : Vec Ideal S64x27648 .bf16) : scalesOf x = Cert.ReferenceIdeal.Gen.k0_pay5 x := by
  funext i
  rw [reference_scale_apply, scales_eq, scale_word_eq, ← reference_exponent]

/-- The reference's exponent field of a row's inverse scale: 127 less its exponent, and never below zero. -/
theorem reference_inverse_apply (x : Vec Ideal S64x27648 .bf16) (i : S64x1.Idx) :
    shli (Cert.ReferenceIdeal.Gen.k0_pay6 x) (broadcast S64x1 23#32) i
      = IntOp.shli .vector (IntOp.maxsi (IntOp.subi 127#32 (Cert.ReferenceIdeal.Gen.k0_pay4 x i)) 0#32) 23#32 := by
  rfl

/-- The words of the kernel's inverse scales: its power of two with the two edges of the field cut off. -/
def inverseWords (e : IVec S64x1 32) : IVec S64x1 32 :=
  have v135 : IVec S64x1 32 := addi (minsi (broadcast S64x1 512#32) (maxsi (broadcast S64x1 4294966784#32) (subi (broadcast S64x1 0#32) e))) (broadcast S64x1 127#32)
  select (cmpi .sle v135 (broadcast S64x1 0#32)) (broadcast S64x1 0#32)
    (select (cmpi .sge v135 (broadcast S64x1 255#32)) (broadcast S64x1 2139095040#32) (shli v135 (broadcast S64x1 23#32)))

/-- One row's word is the power of two of the negated exponent. -/
theorem inverseWords_apply (e : IVec S64x1 32) (i : S64x1.Idx) :
    inverseWords e i = ldexpWord (IntOp.subi 0#32 (e i)) := by
  rfl

/-- The codes of rows for given words of the inverse scales: the rows times them, held within ±448 and rounded to
    the code type. -/
def codesWith (v : FVec Ideal S64x27648 .f32) (w : IVec S64x1 32) : FVec Ideal S64x27648 .fp8e4m3 :=
  truncf .fp8e4m3 (minimumf (broadcast S64x27648 (Scalar.ofBits .f32 0x43E00000#32))
    (maximumf (broadcast S64x27648 (Scalar.ofBits .f32 0xC3E00000#32))
      (mulf v (broadcastTo S64x27648 (bitcastToFloat .f32 w) Cert.KernelIdeal.Gen.broadcasts_S64x1_S64x27648))))
    Cert.KernelIdeal.Gen.bitsLt_fp8e4m3_f32

/-- The kernel's codes are those of its words. -/
theorem codes_of_words (x : Vec Ideal S64x27648 .bf16) :
    codesOf x = codesWith (Cert.KernelIdeal.Gen.k0_pay5 x)
      (inverseWords (Cert.KernelIdeal.Gen.k0_pay14 (F := Ideal) (Cert.KernelIdeal.Gen.k0_pay6 x) (fieldOf x) (edgeOf x)
        Cert.KernelIdeal.Gen.k0_pay13 126#32)) := by
  rfl

/-- The reference's codes are those of its words. -/
theorem reference_codes_of_words (v : FVec Ideal S64x27648 .f32) (w : IVec S64x1 32) :
    Cert.ReferenceIdeal.Gen.k0_pay1 v w = codesWith v (shli w (broadcast S64x1 23#32)) := by
  rfl

/-- Both programs' words of the inverse scales are the same. -/
theorem words_eq (x : Vec Ideal S64x27648 .bf16) :
    inverseWords (Cert.KernelIdeal.Gen.k0_pay14 (F := Ideal) (Cert.KernelIdeal.Gen.k0_pay6 x) (fieldOf x) (edgeOf x)
        Cert.KernelIdeal.Gen.k0_pay13 126#32)
      = shli (Cert.ReferenceIdeal.Gen.k0_pay6 x) (broadcast S64x1 23#32) := by
  funext i
  rw [inverseWords_apply, kernel_exponent, inverse_word_eq, ← reference_exponent, reference_inverse_apply]

/-- Both programs compute the same codes. -/
theorem codes_eq_reference (x : Vec Ideal S64x27648 .bf16) :
    codesOf x = Cert.ReferenceIdeal.Gen.k0_pay1 (Cert.ReferenceIdeal.Gen.k0_pay3 x) (Cert.ReferenceIdeal.Gen.k0_pay6 x) := by
  rw [codes_of_words, words_eq, reference_codes_of_words]
  rfl

end Cert.Scales

end
-- ==== Proof.Math.Product.lean ====
/- The product: the kernel's sum over 27 blocks of 1024 columns is the reference's sum over all 27648. -/
module

public import proofs.«01_k».proof.Proof.KernelIdeal.Arrays
public import proofs.«01_k».proof.Proof.Gen.ReferenceIdeal.Skeleton
public import Idealize.ShloMosaic.Lib.Pointwise
public import Idealize.ShloMosaic.Lib.MatmulPlain

@[expose] public section

set_option maxRecDepth 16384

noncomputable section

namespace Cert.Product

open Idealize.ShloMosaic Idealize.ShloMosaic.TcCoe
open Cert.KernelIdeal Cert.KernelIdeal.Own

/-- The accumulator starts at zero. -/
theorem zero_apply (i : S64x5120.Idx) : Cert.KernelIdeal.Gen.k0_pay2 (F := Ideal) i = 0 := by
  pointwise [Cert.KernelIdeal.Gen.k0_pay2]

/-- One point's step at one element: the accumulator plus 1024 products. -/
theorem step_apply (a : Vec Ideal S64x5120 .f32) (q : Vec Ideal S64x1024 .fp8e4m3) (w : Vec Ideal S1024x5120 .fp8e4m3)
    (r : Fin 64) (j : Fin 5120) :
    Cert.KernelIdeal.Gen.k0_pay3 (F := Ideal) a q w (ix2 r j) = (a (ix2 r j) : EReal) + ∑ k : Fin 1024, (q (ix2 r k) : EReal) * (w (ix2 k j) : EReal) := by
  pointwise [Cert.KernelIdeal.Gen.k0_pay3]

/-- The reference's product of codes and weights. -/
def whole (q : Vec Ideal S64x27648 .fp8e4m3) (w : Vec Ideal Cert.ReferenceIdeal.S27648x5120 .fp8e4m3) : Vec Ideal S64x5120 .f32 :=
  matmul (F := Ideal) (φ₁ := .fp8e4m3) (φ₂ := .fp8e4m3) Cert.ReferenceIdeal.dot_S64x27648_S27648x5120_S64x5120_1_0_0_1_n_n none q w (constant (F := Ideal) S64x5120 .f32 0x00000000#32)

/-- The reference's product at one element: 27648 products. -/
theorem whole_apply (q : Vec Ideal S64x27648 .fp8e4m3) (w : Vec Ideal Cert.ReferenceIdeal.S27648x5120 .fp8e4m3)
    (r : Fin 64) (j : Fin 5120) :
    whole q w (ix2 r j) = ∑ l : Fin 27648, (q (ix2 r l) : EReal) * (w (ix2 l j) : EReal) := by
  pointwise [whole]

/-- The product under a column number, zero beyond the last column. -/
def term (q : Vec Ideal S64x27648 .fp8e4m3) (w : Vec Ideal Cert.ReferenceIdeal.S27648x5120 .fp8e4m3) (r : Fin 64) (j : Fin 5120) (n : ℕ) : EReal :=
  if h : n < 27648 then (q (ix2 r ⟨n, h⟩) : EReal) * (w (ix2 ⟨n, h⟩ j) : EReal) else 0

variable (m : (ℓ : Loc nD τ sig) → Buf (Elt Ideal) ℓ)

/-- The weights' argument. -/
def weightsArg (c : Dev nD) : Vec Ideal Cert.ReferenceIdeal.S27648x5120 .fp8e4m3 := m ((c : Thread nD τ).loc main_arg1)

/-- One product of a point's block is the one under its column of the whole. -/
theorem block_term (c : Dev nD) (t : Fin cfg0.N) (q : Vec Ideal S64x27648 .fp8e4m3) (r : Fin 64) (j : Fin 5120) (k : Fin 1024) :
    (colsOf (grid0.coords t) q (ix2 r k) : EReal) * (weights m c t (ix2 k j) : EReal) = term q (weightsArg m c) r j (t.val * 1024 + k.val) := by
  have ht : t.val < 27 := Nat.lt_of_lt_of_eq t.isLt points
  have hl : t.val * 1024 + k.val < 27648 := by omega
  rw [term, dif_pos hl, colsOf_apply t q r k ⟨_, hl⟩ rfl, weights_apply m c t k j ⟨_, hl⟩ rfl]
  rfl

/-- The accumulator before point `n` at one element: the products of the first `n` blocks. -/
theorem acc_apply (c : Dev nD) (r : Fin 64) (j : Fin 5120) (n : ℕ) (hn : n ≤ 27) :
    (accAt m c n (ix2 r j) : EReal) = ∑ s ∈ Finset.range n, ∑ k : Fin 1024, term (codesOf (rows m c)) (weightsArg m c) r j (s * 1024 + k.val) := by
  induction n with
  | zero => rw [Finset.sum_range_zero]; exact zero_apply _
  | succ n ih =>
    have h : n < cfg0.N := by rw [points]; omega
    rw [Finset.sum_range_succ, ← ih (by omega)]
    refine (congrFun (accAt_succ m c ⟨n, h⟩) (ix2 r j)).trans ((step_apply _ _ _ r j).trans ?_)
    refine congrArg (fun z : EReal => (accAt m c n (ix2 r j) : EReal) + z) (Finset.sum_congr rfl fun k _ => ?_)
    exact block_term m c ⟨n, h⟩ (codesOf (rows m c)) r j k

/-- The accumulator at the end is the reference's product of the codes and the weights. -/
theorem acc_eq_whole (c : Dev nD) : accAt m c cfg0.N = whole (codesOf (rows m c)) (weightsArg m c) := by
  rw [points]
  funext i
  idx_vars i
  rw [whole_apply]
  refine (acc_apply m c i0 i1 27 le_rfl).trans ?_
  rw [← Fin.sum_univ_eq_sum_range (fun s => ∑ k : Fin 1024, term (codesOf (rows m c)) (weightsArg m c) i0 i1 (s * 1024 + k.val)) 27,
    Fin.sum_univ_univ_mul_add 27 1024 (term (codesOf (rows m c)) (weightsArg m c) i0 i1)]
  refine Finset.sum_congr rfl fun l _ => ?_
  have hl : l.val < 27648 := l.isLt
  rw [term, dif_pos hl]

/-- The last step of both programs: the product times the rows' scales and the weights' scales, rounded. -/
theorem scaled_product (v2 : Vec Ideal S64x27648 .f32) (s : Vec Ideal S64x1 .f32) (e : IVec S64x1 32)
    (w : Vec Ideal Cert.ReferenceIdeal.S27648x5120 .fp8e4m3) (ws : Vec Ideal S1x5120 .f32) :
    Cert.ReferenceIdeal.Gen.k0_pay2 (F := Ideal) v2 s e w ws
      = Cert.KernelIdeal.Gen.k0_pay4 (F := Ideal) (whole (Cert.ReferenceIdeal.Gen.k0_pay1 (F := Ideal) v2 e) w) s ws := by
  have h : (shapeCast S64x1 s Cert.KernelIdeal.Gen.shapeCasts_S64x1_S64x1 : Vec Ideal S64x1 .f32) = s := by
    funext i
    exact shapeCast_apply _ _ i i rfl
  unfold Cert.KernelIdeal.Gen.k0_pay4
  dsimp only
  rw [h]
  rfl

end Cert.Product

end
-- ==== Proof.Math.Reference.lean ====
/- What the reference computes: its three results as functions of its arguments. -/
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Own

open Idealize.ShloMosaic Idealize.ShloMosaic.TcCoe Idealize.ShloMosaic.Tactic
open Cert.ReferenceIdeal.Gen
open Idealize.SL Idealize.SL.Sem

variable {F : FTy → Type} [FloatOps F]

variable (m : (ℓ : Loc nD τ sig) → Buf (Elt F) ℓ) (ρ : Dev nD → PrngReg)

/-- The one point. -/
abbrev t0 : Fin cfg0.N := ⟨0, by decide +kernel⟩

/-- Every window's block index is zero. -/
theorem index_0 : ∀ t : Fin cfg0.N, win0_0.index t = ![0, 0] ∧ win0_1.index t = ![0, 0] ∧ win0_2.index t = ![0, 0] :=
  (by decide +kernel : ∀ t : Fin grid0.N, _)

/-- The rows the reference reads are the whole first array. -/
theorem rows_eq (c : Dev nD) : iblk m c 0 t0 = V m c main_v0 := by
  blk_ext! [iblk, (index_0 t0).1]

/-- The weights it reads are the whole second argument. -/
theorem weights_eq (c : Dev nD) : iblk m c 1 t0 = m ((c : Thread nD τ).loc main_arg1) := by
  rw [← V_main_arg1 m c]
  blk_ext! [iblk, (index_0 t0).2.1]

/-- The weights' scales it reads are the whole third array. -/
theorem weightScales_eq (c : Dev nD) : iblk m c 2 t0 = V m c main_v1 := by
  blk_ext! [iblk, (index_0 t0).2.2]

/-- A load of the whole of an array is the array. -/
theorem ld_whole {s : Shape} {e : EltTy} (x : Vec F s e) (off : Fin s.rank → ℕ) (inb : ∀ a, off a + s.size a ≤ s.size a)
    (h : ∀ a, off a = 0) : View.ld x (Rect.unit (s := s) off s.size inb) = x := by
  funext i
  refine congrArg x (funext fun a => Fin.ext ?_)
  show off a + 1 * (i a).val = (i a).val
  rw [h a]; omega

/-- The offset of every load is zero. -/
theorem zero_offset : ∀ a : Fin 2, (![0, 0] : Fin 2 → ℕ) a = 0 := by decide

/-- The load of the rows is the rows. -/
theorem ld_rows (x : Vec F S64x27648 .bf16) : View.ld x r0_0 = x := ld_whole x _ _ zero_offset

/-- The load of the weights is the weights. -/
theorem ld_weights (w : Vec F S27648x5120 .fp8e4m3) : View.ld w r0_1 = w := ld_whole w _ _ zero_offset

/-- The load of the weights' scales is the weights' scales. -/
theorem ld_scales (s : Vec F S1x5120 .f32) : View.ld s r0_2 = s := ld_whole s _ _ zero_offset

/-- The first result of the reference, from its three inputs. -/
theorem out_3 (x : Vec F S64x27648 .bf16) (w : Vec F S27648x5120 .fp8e4m3) (s : Vec F S1x5120 .f32) :
    out0_3 x w s = k0_pay2 (k0_pay3 x) (k0_pay5 x) (k0_pay6 x) w s := by
  unfold_out out0_3
  refine (View.canon_unit_zero (by decide) _ _).trans ?_
  rw [ld_rows, ld_weights, ld_scales]

/-- The second result of the reference. -/
theorem out_4 (x : Vec F S64x27648 .bf16) (w : Vec F S27648x5120 .fp8e4m3) (s : Vec F S1x5120 .f32) :
    out0_4 x w s = k0_pay1 (k0_pay3 x) (k0_pay6 x) := by
  unfold_out out0_4
  refine (View.canon_unit_zero (by decide) _ _).trans ?_
  rw [ld_rows]

/-- The third result of the reference. -/
theorem out_5 (x : Vec F S64x27648 .bf16) (w : Vec F S27648x5120 .fp8e4m3) (s : Vec F S1x5120 .f32) :
    out0_5 x w s = k0_pay5 x := by
  unfold_out out0_5
  refine (View.canon_unit_zero (by decide) _ _).trans ?_
  rw [ld_rows]

/-- The first result is written back once, whole. -/
theorem whole_3 : (cfg0.win 3).WholeAt t0 := by decide +kernel

/-- The second result is written back once, whole. -/
theorem whole_4 : (cfg0.win 4).WholeAt t0 := by decide +kernel

/-- The third result is written back once, whole. -/
theorem whole_5 : (cfg0.win 5).WholeAt t0 := by decide +kernel

/-- The first array after the run of the reference. -/
theorem array_3 (c : Dev nD) : (dats m 0 c).arrAt 3 cfg0.N
    = k0_pay2 (k0_pay3 (V m c main_v0)) (k0_pay5 (V m c main_v0)) (k0_pay6 (V m c main_v0)) (m ((c : Thread nD τ).loc main_arg1)) (V m c main_v1) := by
  refine (dats m 0 c).arrAt_eq_of_after_last 3 t0 whole_3 _ fun j => ?_
  rw [after0_3, out_3, rows_eq, weights_eq, weightScales_eq]
  rfl

/-- The second array after the run of the reference. -/
theorem array_4 (c : Dev nD) : (dats m 0 c).arrAt 4 cfg0.N
    = k0_pay1 (k0_pay3 (V m c main_v0)) (k0_pay6 (V m c main_v0)) := by
  refine (dats m 0 c).arrAt_eq_of_after_last 4 t0 whole_4 _ fun j => ?_
  rw [after0_4, out_4, rows_eq]
  rfl

/-- The third array after the run of the reference. -/
theorem array_5 (c : Dev nD) : (dats m 0 c).arrAt 5 cfg0.N = k0_pay5 (V m c main_v0) := by
  refine (dats m 0 c).arrAt_eq_of_after_last 5 t0 whole_5 _ fun j => ?_
  rw [after0_5, out_5, rows_eq]
  rfl

/-- The whole run of the reference: the three arrays after it, and the arguments as they were. -/
theorem run_results : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Own

end
-- ==== Proof.Math.Equation.lean ====
/- The equation: from the same arguments both programs end with the same three results. -/
module

public import proofs.«01_k».proof.Proof.Math.Codes
public import proofs.«01_k».proof.Proof.Math.Product
public import proofs.«01_k».proof.Proof.Math.Reference

@[expose] public section

set_option maxRecDepth 16384

noncomputable section

namespace Cert.Equation

open Idealize.ShloMosaic Idealize.ShloMosaic.TcCoe
open Cert.KernelIdeal.Own

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The rows both programs read are the first argument, reshaped in the same way. -/
theorem rows_agree (c : Dev KernelIdeal.nD)
    (h : m' ((c : Thread ReferenceIdeal.nD ReferenceIdeal.τ).loc ReferenceIdeal.main_arg0)
      = m ((c : Thread KernelIdeal.nD KernelIdeal.τ).loc KernelIdeal.main_arg0)) :
    ReferenceIdeal.Gen.V m' c ReferenceIdeal.main_v0 = rows m c := by
  rw [rows_eq]
  entry_read
  rw [h]
  rfl

/-- The weights' scales both programs read are the third argument, reshaped in the same way. -/
theorem weightScales_agree (c : Dev KernelIdeal.nD) (t : Fin KernelIdeal.cfg0.N)
    (h : m' ((c : Thread ReferenceIdeal.nD ReferenceIdeal.τ).loc ReferenceIdeal.main_arg2)
      = m ((c : Thread KernelIdeal.nD KernelIdeal.τ).loc KernelIdeal.main_arg2)) :
    ReferenceIdeal.Gen.V m' c ReferenceIdeal.main_v1 = weightScales m c t := by
  rw [weightScales_eq]
  entry_read
  rw [h]
  rfl

/-- The first result: the scaled product. -/
theorem result_3 (c : Dev KernelIdeal.nD)
    (h0 : m' ((c : Thread ReferenceIdeal.nD ReferenceIdeal.τ).loc ReferenceIdeal.main_arg0)
      = m ((c : Thread KernelIdeal.nD KernelIdeal.τ).loc KernelIdeal.main_arg0))
    (h1 : m' ((c : Thread ReferenceIdeal.nD ReferenceIdeal.τ).loc ReferenceIdeal.main_arg1)
      = m ((c : Thread KernelIdeal.nD KernelIdeal.τ).loc KernelIdeal.main_arg1))
    (h2 : m' ((c : Thread ReferenceIdeal.nD ReferenceIdeal.τ).loc ReferenceIdeal.main_arg2)
      = m ((c : Thread KernelIdeal.nD KernelIdeal.τ).loc KernelIdeal.main_arg2)) :
    (ReferenceIdeal.Gen.dats m' 0 c).arrAt 3 ReferenceIdeal.cfg0.N = productOf m c tLast := by
  refine (ReferenceIdeal.Own.array_3 m' c).trans ?_
  rw [rows_agree m m' c h0, weightScales_agree m m' c tLast h2, h1]
  refine (Product.scaled_product _ _ _ _ _).trans ?_
  unfold productOf
  rw [Product.acc_eq_whole, Scales.scales_eq_reference, Scales.codes_eq_reference]
  rfl

/-- The second result: the codes. -/
theorem result_4 (c : Dev KernelIdeal.nD)
    (h0 : m' ((c : Thread ReferenceIdeal.nD ReferenceIdeal.τ).loc ReferenceIdeal.main_arg0)
      = m ((c : Thread KernelIdeal.nD KernelIdeal.τ).loc KernelIdeal.main_arg0)) :
    (ReferenceIdeal.Gen.dats m' 0 c).arrAt 4 ReferenceIdeal.cfg0.N = codesOf (rows m c) := by
  refine (ReferenceIdeal.Own.array_4 m' c).trans ?_
  rw [rows_agree m m' c h0, Scales.codes_eq_reference]

/-- The third result: the scales. -/
theorem result_5 (c : Dev KernelIdeal.nD)
    (h0 : m' ((c : Thread ReferenceIdeal.nD ReferenceIdeal.τ).loc ReferenceIdeal.main_arg0)
      = m ((c : Thread KernelIdeal.nD KernelIdeal.τ).loc KernelIdeal.main_arg0)) :
    (ReferenceIdeal.Gen.dats m' 0 c).arrAt 5 ReferenceIdeal.cfg0.N = scalesOf (rows m c) := by
  refine (ReferenceIdeal.Own.array_5 m' c).trans ?_
  rw [rows_agree m m' c h0, Scales.scales_eq_reference]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Arrays
public import proofs.«01_k».proof.Proof.Math.Equation
public import Idealize.ShloMosaic.Adequacy
public import Idealize.ShloMosaic.Init

@[expose] public section

noncomputable section

namespace Cert.Proof

open Idealize.ShloMosaic Idealize.SL.Sem Cert.Kernel

/-- From the same arguments the kernel and the reference end, over the extended reals, with the same three results. -/
theorem algebraic : Cert.algebraic_KernelIdeal_ReferenceIdeal := by
  intro m g m' g' _ hagree
  refine ⟨fun c => Cert.KernelIdeal.Own.productOf m c Cert.KernelIdeal.Own.tLast,
    fun c => Cert.KernelIdeal.Own.codesOf (Cert.KernelIdeal.Own.rows m c),
    fun c => Cert.KernelIdeal.Own.scalesOf (Cert.KernelIdeal.Own.rows m c), Cert.KernelIdeal.Own.run_results m g, ?_⟩
  refine (θ_run _ _ _).mono (fun r h c => ?_) (Cert.ReferenceIdeal.Own.run_results m' g')
  obtain ⟨h3, h4, h5, k0, k1, k2⟩ := h c
  obtain ⟨a0, a1, a2⟩ := hagree c
  exact ⟨h3.trans (Cert.Equation.result_3 m m' c a0 a1 a2), h4.trans (Cert.Equation.result_4 m m' c a0),
    h5.trans (Cert.Equation.result_5 m m' c a0), k0, k1, k2⟩

/-- The claim: the three programs end quiescent with their arguments as they were, and the two over the extended
    reals end with the same results. -/
theorem claim : Cert.Claim := ⟨Cert.Kernel.Gen.facts, Cert.KernelIdeal.Gen.facts, Cert.ReferenceIdeal.Gen.facts,
  fun m ρ _ => Cert.Kernel.Own.frame m ρ, fun m ρ _ => Cert.KernelIdeal.Own.frame m ρ,
  fun m ρ _ => Cert.ReferenceIdeal.Gen.frame m ρ, trivial, algebraic⟩

end Cert.Proof

end
